-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_weights_below_inf [hPre_weights_below_inf : Cert.Pre_weights_below_inf.Facts] (m : (ℓ : Loc Cert.KernelIdeal.nD Cert.KernelIdeal.τ Cert.KernelIdeal.sig) → Buf (Elt Ideal) ℓ) : Prop :=
  ∀ c : Dev Cert.KernelIdeal.nD,
    (Cert.Pre_weights_below_inf.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_weights_below_inf [hPre_weights_below_inf : Cert.Pre_weights_below_inf.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_weights_below_inf.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_weights_below_inf [hKernelIdeal : Cert.KernelIdeal.Facts] [hPre_weights_below_inf : Cert.Pre_weights_below_inf.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_weights_below_inf m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_weights_below_inf [hReferenceIdeal : Cert.ReferenceIdeal.Facts] [hPre_weights_below_inf : Cert.Pre_weights_below_inf.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_weights_below_inf m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  IdealRules.named_const.Statement Cert.KernelIdeal.κ "edge1" .f32 0x3DCCCCCD#32 ((1 / 10 : ℝ) : EReal)
  ∧ IdealRules.named_const.Statement Cert.KernelIdeal.κ "edge2" .f32 0x3E4CCCCD#32 ((1 / 5 : ℝ) : EReal)
  ∧ IdealRules.named_const.Statement Cert.KernelIdeal.κ "edge3" .f32 0x3E99999A#32 ((3 / 10 : ℝ) : EReal)
  ∧ IdealRules.named_const.Statement Cert.KernelIdeal.κ "edge4" .f32 0x3ECCCCCD#32 ((2 / 5 : ℝ) : EReal)
  ∧ IdealRules.named_const.Statement Cert.KernelIdeal.κ "edge6" .f32 0x3F19999A#32 ((3 / 5 : ℝ) : EReal)
  ∧ IdealRules.named_const.Statement Cert.KernelIdeal.κ "edge7" .f32 0x3F333333#32 ((7 / 10 : ℝ) : EReal)
  ∧ IdealRules.named_const.Statement Cert.KernelIdeal.κ "edge8" .f32 0x3F4CCCCD#32 ((4 / 5 : ℝ) : EReal)
  ∧ IdealRules.named_const.Statement Cert.KernelIdeal.κ "edge9" .f32 0x3F666666#32 ((9 / 10 : ℝ) : EReal)

def algebraic_KernelIdeal_ReferenceIdeal_pre_weights_below_inf [hKernelIdeal : Cert.KernelIdeal.Facts] [hReferenceIdeal : Cert.ReferenceIdeal.Facts] [hPre_weights_below_inf : Cert.Pre_weights_below_inf.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_weights_below_inf m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v239) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_weights_below_inf : Cert.Pre_weights_below_inf.Facts),
    quiescent_Kernel (hKernel := hKernel)
    ∧ quiescent_KernelIdeal (hKernelIdeal := hKernelIdeal)
    ∧ quiescent_KernelIdeal_pre_weights_below_inf (hKernelIdeal := hKernelIdeal) (hPre_weights_below_inf := hPre_weights_below_inf)
    ∧ quiescent_ReferenceIdeal (hReferenceIdeal := hReferenceIdeal)
    ∧ quiescent_ReferenceIdeal_pre_weights_below_inf (hReferenceIdeal := hReferenceIdeal) (hPre_weights_below_inf := hPre_weights_below_inf)
    ∧ preserves_Kernel_KernelIdeal
    ∧ algebraic_KernelIdeal_ReferenceIdeal_pre_weights_below_inf (hKernelIdeal := hKernelIdeal) (hReferenceIdeal := hReferenceIdeal) (hPre_weights_below_inf := hPre_weights_below_inf)
-- ==== Pre_weights_below_inf.lean ====
abbrev S4x64x64x720 : Shape := ⟨4, ![4, 64, 64, 720]⟩
abbrev S_ : Shape := ⟨0, ![]⟩

class Facts : Prop where
  bcast_S_S4x64x64x720 : S_.BroadcastsInDim S4x64x64x720 (![] : Fin 0 → Fin S4x64x64x720.rank)

variable [Facts]

def fn {F : FTy → Type} [FloatOps F] (main_arg0 : IVec S4x64x64x720 32) (main_arg1 : FVec F S4x64x64x720 .f32) (main_arg2 : FVec F S4x64x64x720 .f32) : IVec S4x64x64x720 1 :=
  let main_cst : FVec F S_ .f32 := constant S_ .f32 0x7F800000#32
  let main_v0 : FVec F S4x64x64x720 .f32 := broadcastInDim S4x64x64x720 ![] bcast_S_S4x64x64x720 main_cst
  let main_v1 : IVec S4x64x64x720 1 := cmpf .olt main_arg2 main_v0
  main_v1
-- ==== Kernel.lean ====
abbrev S4x64x64x720 : Shape := ⟨4, ![4, 64, 64, 720]⟩
abbrev S11520x1024 : Shape := ⟨2, ![11520, 1024]⟩
abbrev S1x1 : Shape := ⟨2, ![1, 1]⟩
abbrev S720x1024 : Shape := ⟨2, ![720, 1024]⟩
abbrev S2x10 : Shape := ⟨2, ![2, 10]⟩
abbrev S1x720x1024 : Shape := ⟨3, ![1, 720, 1024]⟩
abbrev S1 : Shape := ⟨1, ![1]⟩
abbrev S1x1x1 : Shape := ⟨3, ![1, 1, 1]⟩

abbrev nBuf : Space → Nat
  | .hbm => 7
  | .vmem => 6
  | .smem => 2
  | _ => 0

abbrev bufTy : (tb : Table) → Fin (tcTables nBuf tb) → BufTy
  | .hbm, ⟨0, _⟩ => ⟨S4x64x64x720, .i32⟩
  | .hbm, ⟨1, _⟩ => ⟨S4x64x64x720, .f32⟩
  | .hbm, ⟨2, _⟩ => ⟨S4x64x64x720, .f32⟩
  | .hbm, ⟨3, _⟩ => ⟨S11520x1024, .i32⟩
  | .hbm, ⟨4, _⟩ => ⟨S11520x1024, .f32⟩
  | .hbm, ⟨5, _⟩ => ⟨S11520x1024, .f32⟩
  | .hbm, ⟨6, _⟩ => ⟨S1x1, .f32⟩
  | .local _ .vmem, ⟨0, _⟩ => ⟨S720x1024, .i32⟩
  | .local _ .vmem, ⟨1, _⟩ => ⟨S720x1024, .i32⟩
  | .local _ .vmem, ⟨2, _⟩ => ⟨S720x1024, .f32⟩
  | .local _ .vmem, ⟨3, _⟩ => ⟨S720x1024, .f32⟩
  | .local _ .vmem, ⟨4, _⟩ => ⟨S720x1024, .f32⟩
  | .local _ .vmem, ⟨5, _⟩ => ⟨S720x1024, .f32⟩
  | .local _ .smem, ⟨0, _⟩ => ⟨S1x1, .f32⟩
  | .local _ .smem, ⟨1, _⟩ => ⟨S2x10, .f32⟩
  | _, _ => ⟨S4x64x64x720, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.smem, 0, rfl⟩
abbrev cc0_scratch0 : Ref sig .tc := ⟨.smem, 1, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6

abbrev nD : Nat := 1
abbrev τ : Topo := Topo.v7x

variable {F : FTy → Type} [FloatOps F]

abbrev grid0 : Pipeline.Grid := ⟨1, ![16], ![false]⟩

def k0_cond2 (i : grid0.Coords) : BitVec 1 :=
  let arg0 : BitVec 32 := BitVec.ofNat 32 (i 0).val
  let c15_i32 : BitVec 32 := 15#32
  let v268 : BitVec 1 := Scalar.cmpi .eq arg0 c15_i32
  let v269 : BitVec 32 := Scalar.extui v268
  let c0_i32_130 : BitVec 32 := 0#32
  let v270 : BitVec 1 := Scalar.cmpi .ne v269 c0_i32_130
  v270

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S720x1024 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S720x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S720x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .smem S1x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]
-- ==== KernelIdeal.lean ====
variable {F : FTy → Type} [FloatOps F] [Named F]
def κ : String → Option EReal := fun
  | "edge1" => some ((1 / 10 : ℝ) : EReal)
  | "edge2" => some ((1 / 5 : ℝ) : EReal)
  | "edge3" => some ((3 / 10 : ℝ) : EReal)
  | "edge4" => some ((2 / 5 : ℝ) : EReal)
  | "edge6" => some ((3 / 5 : ℝ) : EReal)
  | "edge7" => some ((7 / 10 : ℝ) : EReal)
  | "edge8" => some ((4 / 5 : ℝ) : EReal)
  | "edge9" => some ((9 / 10 : ℝ) : EReal)
  | _ => none
-- ==== ReferenceIdeal.lean ====
abbrev S4x64x64x720 : Shape := ⟨4, ![4, 64, 64, 720]⟩
abbrev S11 : Shape := ⟨1, ![11]⟩
abbrev S_ : Shape := ⟨0, ![]⟩
abbrev S1 : Shape := ⟨1, ![1]⟩
abbrev S1x1 : Shape := ⟨2, ![1, 1]⟩

abbrev nBuf : Space → Nat
  | .hbm => 299
  | .vmem => 0
  | .smem => 0
  | _ => 0

abbrev hbmTy0_0 (i : Nat) : BufTy := match i % 128 with
  | 0 => ⟨S4x64x64x720, .i32⟩
  | 1 => ⟨S4x64x64x720, .f32⟩
  | 2 => ⟨S4x64x64x720, .f32⟩
  | 3 => ⟨S11, .f32⟩
  | 4 => ⟨S_, .f32⟩
  | 5 => ⟨S11, .f32⟩
  | 6 => ⟨S11, .f32⟩
  | 7 => ⟨S_, .i32⟩
  | 8 => ⟨S1, .i32⟩
  | 9 => ⟨S_, .f32⟩
  | 10 => ⟨S11, .f32⟩
  | 11 => ⟨S4x64x64x720, .f32⟩
  | 12 => ⟨S4x64x64x720, .f32⟩
  | 13 => ⟨S_, .f32⟩
  | 14 => ⟨S4x64x64x720, .f32⟩
  | 15 => ⟨S4x64x64x720, .f32⟩
  | 16 => ⟨S_, .f32⟩
  | 17 => ⟨S4x64x64x720, .f32⟩
  | 18 => ⟨S4x64x64x720, .f32⟩
  | 19 => ⟨S_, .i32⟩
  | 20 => ⟨S4x64x64x720, .i32⟩
  | 21 => ⟨S4x64x64x720, .i1⟩
  | 22 => ⟨S_, .f32⟩
  | 23 => ⟨S4x64x64x720, .f32⟩
  | 24 => ⟨S4x64x64x720, .f32⟩
  | 25 => ⟨S4x64x64x720, .f32⟩
  | 26 => ⟨S_, .f32⟩
  | 27 => ⟨S_, .f32⟩
  | 28 => ⟨S_, .f32⟩
  | 29 => ⟨S_, .f32⟩
  | 30 => ⟨S_, .f32⟩
  | 31 => ⟨S4x64x64x720, .f32⟩
  | 32 => ⟨S4x64x64x720, .i1⟩
  | 33 => ⟨S_, .f32⟩
  | 34 => ⟨S4x64x64x720, .f32⟩
  | 35 => ⟨S1, .f32⟩
  | 36 => ⟨S_, .f32⟩
  | 37 => ⟨S4x64x64x720, .f32⟩
  | 38 => ⟨S4x64x64x720, .i1⟩
  | 39 => ⟨S1, .f32⟩
  | 40 => ⟨S_, .f32⟩
  | 41 => ⟨S4x64x64x720, .f32⟩
  | 42 => ⟨S4x64x64x720, .i1⟩
  | 43 => ⟨S4x64x64x720, .i1⟩
  | 44 => ⟨S4x64x64x720, .i1⟩
  | 45 => ⟨S4x64x64x720, .f32⟩
  | 46 => ⟨S_, .f32⟩
  | 47 => ⟨S_, .f32⟩
  | 48 => ⟨S_, .f32⟩
  | 49 => ⟨S_, .i1⟩
  | 50 => ⟨S4x64x64x720, .i1⟩
  | 51 => ⟨S4x64x64x720, .i1⟩
  | 52 => ⟨S_, .f32⟩
  | 53 => ⟨S_, .f32⟩
  | 54 => ⟨S_, .f32⟩
  | 55 => ⟨S4x64x64x720, .f32⟩
  | 56 => ⟨S4x64x64x720, .f32⟩
  | 57 => ⟨S_, .f32⟩
  | 58 => ⟨S_, .f32⟩
  | 59 => ⟨S_, .f32⟩
  | 60 => ⟨S1, .f32⟩
  | 61 => ⟨S_, .f32⟩
  | 62 => ⟨S4x64x64x720, .f32⟩
  | 63 => ⟨S4x64x64x720, .i1⟩
  | 64 => ⟨S1, .f32⟩
  | 65 => ⟨S_, .f32⟩
  | 66 => ⟨S4x64x64x720, .f32⟩
  | 67 => ⟨S4x64x64x720, .i1⟩
  | 68 => ⟨S4x64x64x720, .i1⟩
  | 69 => ⟨S4x64x64x720, .i1⟩
  | 70 => ⟨S4x64x64x720, .f32⟩
  | 71 => ⟨S_, .f32⟩
  | 72 => ⟨S_, .f32⟩
  | 73 => ⟨S_, .f32⟩
  | 74 => ⟨S_, .i1⟩
  | 75 => ⟨S4x64x64x720, .i1⟩
  | 76 => ⟨S4x64x64x720, .i1⟩
  | 77 => ⟨S_, .f32⟩
  | 78 => ⟨S_, .f32⟩
  | 79 => ⟨S_, .f32⟩
  | 80 => ⟨S4x64x64x720, .f32⟩
  | 81 => ⟨S4x64x64x720, .f32⟩
  | 82 => ⟨S_, .f32⟩
  | 83 => ⟨S_, .f32⟩
  | 84 => ⟨S1, .f32⟩
  | 85 => ⟨S_, .f32⟩
  | 86 => ⟨S4x64x64x720, .f32⟩
  | 87 => ⟨S4x64x64x720, .i1⟩
  | 88 => ⟨S1, .f32⟩
  | 89 => ⟨S_, .f32⟩
  | 90 => ⟨S4x64x64x720, .f32⟩
  | 91 => ⟨S4x64x64x720, .i1⟩
  | 92 => ⟨S4x64x64x720, .i1⟩
  | 93 => ⟨S4x64x64x720, .i1⟩
  | 94 => ⟨S4x64x64x720, .f32⟩
  | 95 => ⟨S_, .f32⟩
  | 96 => ⟨S_, .f32⟩
  | 97 => ⟨S_, .f32⟩
  | 98 => ⟨S_, .i1⟩
  | 99 => ⟨S4x64x64x720, .i1⟩
  | 100 => ⟨S4x64x64x720, .i1⟩
  | 101 => ⟨S_, .f32⟩
  | 102 => ⟨S_, .f32⟩
  | 103 => ⟨S_, .f32⟩
  | 104 => ⟨S4x64x64x720, .f32⟩
  | 105 => ⟨S4x64x64x720, .f32⟩
  | 106 => ⟨S_, .f32⟩
  | 107 => ⟨S_, .f32⟩
  | 108 => ⟨S1, .f32⟩
  | 109 => ⟨S_, .f32⟩
  | 110 => ⟨S4x64x64x720, .f32⟩
  | 111 => ⟨S4x64x64x720, .i1⟩
  | 112 => ⟨S1, .f32⟩
  | 113 => ⟨S_, .f32⟩
  | 114 => ⟨S4x64x64x720, .f32⟩
  | 115 => ⟨S4x64x64x720, .i1⟩
  | 116 => ⟨S4x64x64x720, .i1⟩
  | 117 => ⟨S4x64x64x720, .i1⟩
  | 118 => ⟨S4x64x64x720, .f32⟩
  | 119 => ⟨S_, .f32⟩
  | 120 => ⟨S_, .f32⟩
  | 121 => ⟨S_, .f32⟩
  | 122 => ⟨S_, .i1⟩
  | 123 => ⟨S4x64x64x720, .i1⟩
  | 124 => ⟨S4x64x64x720, .i1⟩
  | 125 => ⟨S_, .f32⟩
  | 126 => ⟨S_, .f32⟩
  | 127 => ⟨S_, .f32⟩
  | _ => ⟨S4x64x64x720, .i32⟩

abbrev hbmTy0_1 (i : Nat) : BufTy := match i % 128 with
  | 0 => ⟨S4x64x64x720, .f32⟩
  | 1 => ⟨S4x64x64x720, .f32⟩
  | 2 => ⟨S_, .f32⟩
  | 3 => ⟨S_, .f32⟩
  | 4 => ⟨S1, .f32⟩
  | 5 => ⟨S_, .f32⟩
  | 6 => ⟨S4x64x64x720, .f32⟩
  | 7 => ⟨S4x64x64x720, .i1⟩
  | 8 => ⟨S1, .f32⟩
  | 9 => ⟨S_, .f32⟩
  | 10 => ⟨S4x64x64x720, .f32⟩
  | 11 => ⟨S4x64x64x720, .i1⟩
  | 12 => ⟨S4x64x64x720, .i1⟩
  | 13 => ⟨S4x64x64x720, .i1⟩
  | 14 => ⟨S4x64x64x720, .f32⟩
  | 15 => ⟨S_, .f32⟩
  | 16 => ⟨S_, .f32⟩
  | 17 => ⟨S_, .f32⟩
  | 18 => ⟨S_, .i1⟩
  | 19 => ⟨S4x64x64x720, .i1⟩
  | 20 => ⟨S4x64x64x720, .i1⟩
  | 21 => ⟨S_, .f32⟩
  | 22 => ⟨S_, .f32⟩
  | 23 => ⟨S_, .f32⟩
  | 24 => ⟨S4x64x64x720, .f32⟩
  | 25 => ⟨S4x64x64x720, .f32⟩
  | 26 => ⟨S_, .f32⟩
  | 27 => ⟨S_, .f32⟩
  | 28 => ⟨S1, .f32⟩
  | 29 => ⟨S_, .f32⟩
  | 30 => ⟨S4x64x64x720, .f32⟩
  | 31 => ⟨S4x64x64x720, .i1⟩
  | 32 => ⟨S1, .f32⟩
  | 33 => ⟨S_, .f32⟩
  | 34 => ⟨S4x64x64x720, .f32⟩
  | 35 => ⟨S4x64x64x720, .i1⟩
  | 36 => ⟨S4x64x64x720, .i1⟩
  | 37 => ⟨S4x64x64x720, .i1⟩
  | 38 => ⟨S4x64x64x720, .f32⟩
  | 39 => ⟨S_, .f32⟩
  | 40 => ⟨S_, .f32⟩
  | 41 => ⟨S_, .f32⟩
  | 42 => ⟨S_, .i1⟩
  | 43 => ⟨S4x64x64x720, .i1⟩
  | 44 => ⟨S4x64x64x720, .i1⟩
  | 45 => ⟨S_, .f32⟩
  | 46 => ⟨S_, .f32⟩
  | 47 => ⟨S_, .f32⟩
  | 48 => ⟨S4x64x64x720, .f32⟩
  | 49 => ⟨S4x64x64x720, .f32⟩
  | 50 => ⟨S_, .f32⟩
  | 51 => ⟨S_, .f32⟩
  | 52 => ⟨S1, .f32⟩
  | 53 => ⟨S_, .f32⟩
  | 54 => ⟨S4x64x64x720, .f32⟩
  | 55 => ⟨S4x64x64x720, .i1⟩
  | 56 => ⟨S1, .f32⟩
  | 57 => ⟨S_, .f32⟩
  | 58 => ⟨S4x64x64x720, .f32⟩
  | 59 => ⟨S4x64x64x720, .i1⟩
  | 60 => ⟨S4x64x64x720, .i1⟩
  | 61 => ⟨S4x64x64x720, .i1⟩
  | 62 => ⟨S4x64x64x720, .f32⟩
  | 63 => ⟨S_, .f32⟩
  | 64 => ⟨S_, .f32⟩
  | 65 => ⟨S_, .f32⟩
  | 66 => ⟨S_, .i1⟩
  | 67 => ⟨S4x64x64x720, .i1⟩
  | 68 => ⟨S4x64x64x720, .i1⟩
  | 69 => ⟨S_, .f32⟩
  | 70 => ⟨S_, .f32⟩
  | 71 => ⟨S_, .f32⟩
  | 72 => ⟨S4x64x64x720, .f32⟩
  | 73 => ⟨S4x64x64x720, .f32⟩
  | 74 => ⟨S_, .f32⟩
  | 75 => ⟨S_, .f32⟩
  | 76 => ⟨S1, .f32⟩
  | 77 => ⟨S_, .f32⟩
  | 78 => ⟨S4x64x64x720, .f32⟩
  | 79 => ⟨S4x64x64x720, .i1⟩
  | 80 => ⟨S1, .f32⟩
  | 81 => ⟨S_, .f32⟩
  | 82 => ⟨S4x64x64x720, .f32⟩
  | 83 => ⟨S4x64x64x720, .i1⟩
  | 84 => ⟨S4x64x64x720, .i1⟩
  | 85 => ⟨S4x64x64x720, .i1⟩
  | 86 => ⟨S4x64x64x720, .f32⟩
  | 87 => ⟨S_, .f32⟩
  | 88 => ⟨S_, .f32⟩
  | 89 => ⟨S_, .f32⟩
  | 90 => ⟨S_, .i1⟩
  | 91 => ⟨S4x64x64x720, .i1⟩
  | 92 => ⟨S4x64x64x720, .i1⟩
  | 93 => ⟨S_, .f32⟩
  | 94 => ⟨S_, .f32⟩
  | 95 => ⟨S_, .f32⟩
  | 96 => ⟨S4x64x64x720, .f32⟩
  | 97 => ⟨S4x64x64x720, .f32⟩
  | 98 => ⟨S_, .f32⟩
  | 99 => ⟨S_, .f32⟩
  | 100 => ⟨S1, .f32⟩
  | 101 => ⟨S_, .f32⟩
  | 102 => ⟨S4x64x64x720, .f32⟩
  | 103 => ⟨S4x64x64x720, .i1⟩
  | 104 => ⟨S1, .f32⟩
  | 105 => ⟨S_, .f32⟩
  | 106 => ⟨S4x64x64x720, .f32⟩
  | 107 => ⟨S4x64x64x720, .i1⟩
  | 108 => ⟨S4x64x64x720, .i1⟩
  | 109 => ⟨S4x64x64x720, .i1⟩
  | 110 => ⟨S4x64x64x720, .f32⟩
  | 111 => ⟨S_, .f32⟩
  | 112 => ⟨S_, .f32⟩
  | 113 => ⟨S_, .f32⟩
  | 114 => ⟨S_, .i1⟩
  | 115 => ⟨S4x64x64x720, .i1⟩
  | 116 => ⟨S4x64x64x720, .i1⟩
  | 117 => ⟨S_, .f32⟩
  | 118 => ⟨S_, .f32⟩
  | 119 => ⟨S_, .f32⟩
  | 120 => ⟨S4x64x64x720, .f32⟩
  | 121 => ⟨S4x64x64x720, .f32⟩
  | 122 => ⟨S_, .f32⟩
  | 123 => ⟨S_, .f32⟩
  | 124 => ⟨S1, .f32⟩
  | 125 => ⟨S_, .f32⟩
  | 126 => ⟨S4x64x64x720, .f32⟩
  | 127 => ⟨S4x64x64x720, .i1⟩
  | _ => ⟨S4x64x64x720, .i32⟩

abbrev hbmTy0_2 (i : Nat) : BufTy := match i % 128 with
  | 0 => ⟨S1, .f32⟩
  | 1 => ⟨S_, .f32⟩
  | 2 => ⟨S4x64x64x720, .f32⟩
  | 3 => ⟨S4x64x64x720, .i1⟩
  | 4 => ⟨S4x64x64x720, .i1⟩
  | 5 => ⟨S4x64x64x720, .i1⟩
  | 6 => ⟨S4x64x64x720, .f32⟩
  | 7 => ⟨S_, .f32⟩
  | 8 => ⟨S_, .f32⟩
  | 9 => ⟨S_, .f32⟩
  | 10 => ⟨S_, .i1⟩
  | 11 => ⟨S4x64x64x720, .i1⟩
  | 12 => ⟨S4x64x64x720, .i1⟩
  | 13 => ⟨S_, .f32⟩
  | 14 => ⟨S_, .f32⟩
  | 15 => ⟨S_, .f32⟩
  | 16 => ⟨S4x64x64x720, .f32⟩
  | 17 => ⟨S4x64x64x720, .f32⟩
  | 18 => ⟨S_, .f32⟩
  | 19 => ⟨S_, .f32⟩
  | 20 => ⟨S_, .f32⟩
  | 21 => ⟨S_, .i1⟩
  | 22 => ⟨S_, .f32⟩
  | 23 => ⟨S_, .f32⟩
  | 24 => ⟨S4x64x64x720, .f32⟩
  | 25 => ⟨S4x64x64x720, .f32⟩
  | 26 => ⟨S4x64x64x720, .f32⟩
  | 27 => ⟨S4x64x64x720, .f32⟩
  | 28 => ⟨S_, .f32⟩
  | 29 => ⟨S4x64x64x720, .f32⟩
  | 30 => ⟨S4x64x64x720, .f32⟩
  | 31 => ⟨S4x64x64x720, .f32⟩
  | 32 => ⟨S4x64x64x720, .f32⟩
  | 33 => ⟨S4x64x64x720, .f32⟩
  | 34 => ⟨S4x64x64x720, .f32⟩
  | 35 => ⟨S4x64x64x720, .f32⟩
  | 36 => ⟨S4x64x64x720, .f32⟩
  | 37 => ⟨S4x64x64x720, .f32⟩
  | 38 => ⟨S4x64x64x720, .f32⟩
  | 39 => ⟨S_, .f32⟩
  | 40 => ⟨S_, .f32⟩
  | 41 => ⟨S_, .f32⟩
  | 42 => ⟨S1x1, .f32⟩
  | _ => ⟨S4x64x64x720, .i32⟩

abbrev hbmTy (i : Nat) : BufTy := match i / 128 with
  | 0 => hbmTy0_0 i
  | 1 => hbmTy0_1 i
  | 2 => hbmTy0_2 i
  | _ => ⟨S4x64x64x720, .i32⟩

abbrev bufTy : (tb : Table) → Fin (tcTables nBuf tb) → BufTy
  | .hbm, ⟨i, _⟩ => hbmTy i
  | _, _ => ⟨S4x64x64x720, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_c : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_c_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_cst_6 : Ref sig .tc := ⟨.hbm, 28, rfl⟩
abbrev main_v17 : Ref sig .tc := ⟨.hbm, 29, rfl⟩
abbrev main_cst_7 : Ref sig .tc := ⟨.hbm, 30, rfl⟩
abbrev main_v18 : Ref sig .tc := ⟨.hbm, 31, rfl⟩
abbrev main_v19 : Ref sig .tc := ⟨.hbm, 32, rfl⟩
abbrev main_cst_8 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_cst_9 : Ref sig .tc := ⟨.hbm, 46, rfl⟩
abbrev main_v32 : Ref sig .tc := ⟨.hbm, 47, rfl⟩
abbrev main_cst_10 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_cst_11 : Ref sig .tc := ⟨.hbm, 52, rfl⟩
abbrev main_v36 : Ref sig .tc := ⟨.hbm, 53, rfl⟩
abbrev main_v37 : Ref sig .tc := ⟨.hbm, 54, rfl⟩
abbrev main_call1_v0 : Ref sig .tc := ⟨.hbm, 55, rfl⟩
abbrev main_v38 : Ref sig .tc := ⟨.hbm, 56, rfl⟩
abbrev main_v39 : Ref sig .tc := ⟨.hbm, 57, rfl⟩
abbrev main_cst_12 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_cst_13 : Ref sig .tc := ⟨.hbm, 71, rfl⟩
abbrev main_v52 : Ref sig .tc := ⟨.hbm, 72, rfl⟩
abbrev main_cst_14 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_cst_15 : Ref sig .tc := ⟨.hbm, 77, rfl⟩
abbrev main_v56 : Ref sig .tc := ⟨.hbm, 78, rfl⟩
abbrev main_v57 : Ref sig .tc := ⟨.hbm, 79, rfl⟩
abbrev main_call2_v0 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_cst_16 : Ref sig .tc := ⟨.hbm, 95, rfl⟩
abbrev main_v72 : Ref sig .tc := ⟨.hbm, 96, rfl⟩
abbrev main_cst_17 : Ref sig .tc := ⟨.hbm, 97, rfl⟩
abbrev main_v73 : Ref sig .tc := ⟨.hbm, 98, rfl⟩
abbrev main_v74 : Ref sig .tc := ⟨.hbm, 99, rfl⟩
abbrev main_v75 : Ref sig .tc := ⟨.hbm, 100, rfl⟩
abbrev main_cst_18 : Ref sig .tc := ⟨.hbm, 101, rfl⟩
abbrev main_v76 : Ref sig .tc := ⟨.hbm, 102, rfl⟩
abbrev main_v77 : Ref sig .tc := ⟨.hbm, 103, rfl⟩
abbrev main_call3_v0 : Ref sig .tc := ⟨.hbm, 104, rfl⟩
abbrev main_v78 : Ref sig .tc := ⟨.hbm, 105, rfl⟩
abbrev main_v79 : Ref sig .tc := ⟨.hbm, 106, rfl⟩
abbrev main_v80 : Ref sig .tc := ⟨.hbm, 107, rfl⟩
abbrev main_v81 : Ref sig .tc := ⟨.hbm, 108, rfl⟩
abbrev main_v82 : Ref sig .tc := ⟨.hbm, 109, rfl⟩
abbrev main_v83 : Ref sig .tc := ⟨.hbm, 110, rfl⟩
abbrev main_v84 : Ref sig .tc := ⟨.hbm, 111, rfl⟩
abbrev main_v85 : Ref sig .tc := ⟨.hbm, 112, rfl⟩
abbrev main_v86 : Ref sig .tc := ⟨.hbm, 113, rfl⟩
abbrev main_v87 : Ref sig .tc := ⟨.hbm, 114, rfl⟩
abbrev main_v88 : Ref sig .tc := ⟨.hbm, 115, rfl⟩
abbrev main_v89 : Ref sig .tc := ⟨.hbm, 116, rfl⟩
abbrev main_v90 : Ref sig .tc := ⟨.hbm, 117, rfl⟩
abbrev main_v91 : Ref sig .tc := ⟨.hbm, 118, rfl⟩
abbrev main_cst_19 : Ref sig .tc := ⟨.hbm, 119, rfl⟩
abbrev main_v92 : Ref sig .tc := ⟨.hbm, 120, rfl⟩
abbrev main_cst_20 : Ref sig .tc := ⟨.hbm, 121, rfl⟩
abbrev main_v93 : Ref sig .tc := ⟨.hbm, 122, rfl⟩
abbrev main_v94 : Ref sig .tc := ⟨.hbm, 123, rfl⟩
abbrev main_v95 : Ref sig .tc := ⟨.hbm, 124, rfl⟩
abbrev main_cst_21 : Ref sig .tc := ⟨.hbm, 125, rfl⟩
abbrev main_v96 : Ref sig .tc := ⟨.hbm, 126, rfl⟩
abbrev main_v97 : Ref sig .tc := ⟨.hbm, 127, rfl⟩
abbrev main_call4_v0 : Ref sig .tc := ⟨.hbm, 128, rfl⟩
abbrev main_v98 : Ref sig .tc := ⟨.hbm, 129, rfl⟩
abbrev main_v99 : Ref sig .tc := ⟨.hbm, 130, rfl⟩
abbrev main_v100 : Ref sig .tc := ⟨.hbm, 131, rfl⟩
abbrev main_v101 : Ref sig .tc := ⟨.hbm, 132, rfl⟩
abbrev main_v102 : Ref sig .tc := ⟨.hbm, 133, rfl⟩
abbrev main_v103 : Ref sig .tc := ⟨.hbm, 134, rfl⟩
abbrev main_v104 : Ref sig .tc := ⟨.hbm, 135, rfl⟩
abbrev main_v105 : Ref sig .tc := ⟨.hbm, 136, rfl⟩
abbrev main_v106 : Ref sig .tc := ⟨.hbm, 137, rfl⟩
abbrev main_v107 : Ref sig .tc := ⟨.hbm, 138, rfl⟩
abbrev main_v108 : Ref sig .tc := ⟨.hbm, 139, rfl⟩
abbrev main_v109 : Ref sig .tc := ⟨.hbm, 140, rfl⟩
abbrev main_v110 : Ref sig .tc := ⟨.hbm, 141, rfl⟩
abbrev main_v111 : Ref sig .tc := ⟨.hbm, 142, rfl⟩
abbrev main_cst_22 : Ref sig .tc := ⟨.hbm, 143, rfl⟩
abbrev main_v112 : Ref sig .tc := ⟨.hbm, 144, rfl⟩
abbrev main_cst_23 : Ref sig .tc := ⟨.hbm, 145, rfl⟩
abbrev main_v113 : Ref sig .tc := ⟨.hbm, 146, rfl⟩
abbrev main_v114 : Ref sig .tc := ⟨.hbm, 147, rfl⟩
abbrev main_v115 : Ref sig .tc := ⟨.hbm, 148, rfl⟩
abbrev main_cst_24 : Ref sig .tc := ⟨.hbm, 149, rfl⟩
abbrev main_v116 : Ref sig .tc := ⟨.hbm, 150, rfl⟩
abbrev main_v117 : Ref sig .tc := ⟨.hbm, 151, rfl⟩
abbrev main_call5_v0 : Ref sig .tc := ⟨.hbm, 152, rfl⟩
abbrev main_v118 : Ref sig .tc := ⟨.hbm, 153, rfl⟩
abbrev main_v119 : Ref sig .tc := ⟨.hbm, 154, rfl⟩
abbrev main_v120 : Ref sig .tc := ⟨.hbm, 155, rfl⟩
abbrev main_v121 : Ref sig .tc := ⟨.hbm, 156, rfl⟩
abbrev main_v122 : Ref sig .tc := ⟨.hbm, 157, rfl⟩
abbrev main_v123 : Ref sig .tc := ⟨.hbm, 158, rfl⟩
abbrev main_v124 : Ref sig .tc := ⟨.hbm, 159, rfl⟩
abbrev main_v125 : Ref sig .tc := ⟨.hbm, 160, rfl⟩
abbrev main_v126 : Ref sig .tc := ⟨.hbm, 161, rfl⟩
abbrev main_v127 : Ref sig .tc := ⟨.hbm, 162, rfl⟩
abbrev main_v128 : Ref sig .tc := ⟨.hbm, 163, rfl⟩
abbrev main_v129 : Ref sig .tc := ⟨.hbm, 164, rfl⟩
abbrev main_v130 : Ref sig .tc := ⟨.hbm, 165, rfl⟩
abbrev main_v131 : Ref sig .tc := ⟨.hbm, 166, rfl⟩
abbrev main_cst_25 : Ref sig .tc := ⟨.hbm, 167, rfl⟩
abbrev main_v132 : Ref sig .tc := ⟨.hbm, 168, rfl⟩
abbrev main_cst_26 : Ref sig .tc := ⟨.hbm, 169, rfl⟩
abbrev main_v133 : Ref sig .tc := ⟨.hbm, 170, rfl⟩
abbrev main_v134 : Ref sig .tc := ⟨.hbm, 171, rfl⟩
abbrev main_v135 : Ref sig .tc := ⟨.hbm, 172, rfl⟩
abbrev main_cst_27 : Ref sig .tc := ⟨.hbm, 173, rfl⟩
abbrev main_v136 : Ref sig .tc := ⟨.hbm, 174, rfl⟩
abbrev main_v137 : Ref sig .tc := ⟨.hbm, 175, rfl⟩
abbrev main_call6_v0 : Ref sig .tc := ⟨.hbm, 176, rfl⟩
abbrev main_v138 : Ref sig .tc := ⟨.hbm, 177, rfl⟩
abbrev main_v139 : Ref sig .tc := ⟨.hbm, 178, rfl⟩
abbrev main_v140 : Ref sig .tc := ⟨.hbm, 179, rfl⟩
abbrev main_v141 : Ref sig .tc := ⟨.hbm, 180, rfl⟩
abbrev main_v142 : Ref sig .tc := ⟨.hbm, 181, rfl⟩
abbrev main_v143 : Ref sig .tc := ⟨.hbm, 182, rfl⟩
abbrev main_v144 : Ref sig .tc := ⟨.hbm, 183, rfl⟩
abbrev main_v145 : Ref sig .tc := ⟨.hbm, 184, rfl⟩
abbrev main_v146 : Ref sig .tc := ⟨.hbm, 185, rfl⟩
abbrev main_v147 : Ref sig .tc := ⟨.hbm, 186, rfl⟩
abbrev main_v148 : Ref sig .tc := ⟨.hbm, 187, rfl⟩
abbrev main_v149 : Ref sig .tc := ⟨.hbm, 188, rfl⟩
abbrev main_v150 : Ref sig .tc := ⟨.hbm, 189, rfl⟩
abbrev main_v151 : Ref sig .tc := ⟨.hbm, 190, rfl⟩
abbrev main_cst_28 : Ref sig .tc := ⟨.hbm, 191, rfl⟩
abbrev main_v152 : Ref sig .tc := ⟨.hbm, 192, rfl⟩
abbrev main_cst_29 : Ref sig .tc := ⟨.hbm, 193, rfl⟩
abbrev main_v153 : Ref sig .tc := ⟨.hbm, 194, rfl⟩
abbrev main_v154 : Ref sig .tc := ⟨.hbm, 195, rfl⟩
abbrev main_v155 : Ref sig .tc := ⟨.hbm, 196, rfl⟩
abbrev main_cst_30 : Ref sig .tc := ⟨.hbm, 197, rfl⟩
abbrev main_v156 : Ref sig .tc := ⟨.hbm, 198, rfl⟩
abbrev main_v157 : Ref sig .tc := ⟨.hbm, 199, rfl⟩
abbrev main_call7_v0 : Ref sig .tc := ⟨.hbm, 200, rfl⟩
abbrev main_v158 : Ref sig .tc := ⟨.hbm, 201, rfl⟩
abbrev main_v159 : Ref sig .tc := ⟨.hbm, 202, rfl⟩
abbrev main_v160 : Ref sig .tc := ⟨.hbm, 203, rfl⟩
abbrev main_v161 : Ref sig .tc := ⟨.hbm, 204, rfl⟩
abbrev main_v162 : Ref sig .tc := ⟨.hbm, 205, rfl⟩
abbrev main_v163 : Ref sig .tc := ⟨.hbm, 206, rfl⟩
abbrev main_v164 : Ref sig .tc := ⟨.hbm, 207, rfl⟩
abbrev main_v165 : Ref sig .tc := ⟨.hbm, 208, rfl⟩
abbrev main_v166 : Ref sig .tc := ⟨.hbm, 209, rfl⟩
abbrev main_v167 : Ref sig .tc := ⟨.hbm, 210, rfl⟩
abbrev main_v168 : Ref sig .tc := ⟨.hbm, 211, rfl⟩
abbrev main_v169 : Ref sig .tc := ⟨.hbm, 212, rfl⟩
abbrev main_v170 : Ref sig .tc := ⟨.hbm, 213, rfl⟩
abbrev main_v171 : Ref sig .tc := ⟨.hbm, 214, rfl⟩
abbrev main_cst_31 : Ref sig .tc := ⟨.hbm, 215, rfl⟩
abbrev main_v172 : Ref sig .tc := ⟨.hbm, 216, rfl⟩
abbrev main_cst_32 : Ref sig .tc := ⟨.hbm, 217, rfl⟩
abbrev main_v173 : Ref sig .tc := ⟨.hbm, 218, rfl⟩
abbrev main_v174 : Ref sig .tc := ⟨.hbm, 219, rfl⟩
abbrev main_v175 : Ref sig .tc := ⟨.hbm, 220, rfl⟩
abbrev main_cst_33 : Ref sig .tc := ⟨.hbm, 221, rfl⟩
abbrev main_v176 : Ref sig .tc := ⟨.hbm, 222, rfl⟩
abbrev main_v177 : Ref sig .tc := ⟨.hbm, 223, rfl⟩
abbrev main_call8_v0 : Ref sig .tc := ⟨.hbm, 224, rfl⟩
abbrev main_v178 : Ref sig .tc := ⟨.hbm, 225, rfl⟩
abbrev main_v179 : Ref sig .tc := ⟨.hbm, 226, rfl⟩
abbrev main_v180 : Ref sig .tc := ⟨.hbm, 227, rfl⟩
abbrev main_v181 : Ref sig .tc := ⟨.hbm, 228, rfl⟩
abbrev main_v182 : Ref sig .tc := ⟨.hbm, 229, rfl⟩
abbrev main_v183 : Ref sig .tc := ⟨.hbm, 230, rfl⟩
abbrev main_v184 : Ref sig .tc := ⟨.hbm, 231, rfl⟩
abbrev main_v185 : Ref sig .tc := ⟨.hbm, 232, rfl⟩
abbrev main_v186 : Ref sig .tc := ⟨.hbm, 233, rfl⟩
abbrev main_v187 : Ref sig .tc := ⟨.hbm, 234, rfl⟩
abbrev main_v188 : Ref sig .tc := ⟨.hbm, 235, rfl⟩
abbrev main_v189 : Ref sig .tc := ⟨.hbm, 236, rfl⟩
abbrev main_v190 : Ref sig .tc := ⟨.hbm, 237, rfl⟩
abbrev main_v191 : Ref sig .tc := ⟨.hbm, 238, rfl⟩
abbrev main_cst_34 : Ref sig .tc := ⟨.hbm, 239, rfl⟩
abbrev main_v192 : Ref sig .tc := ⟨.hbm, 240, rfl⟩
abbrev main_cst_35 : Ref sig .tc := ⟨.hbm, 241, rfl⟩
abbrev main_v193 : Ref sig .tc := ⟨.hbm, 242, rfl⟩
abbrev main_v194 : Ref sig .tc := ⟨.hbm, 243, rfl⟩
abbrev main_v195 : Ref sig .tc := ⟨.hbm, 244, rfl⟩
abbrev main_cst_36 : Ref sig .tc := ⟨.hbm, 245, rfl⟩
abbrev main_v196 : Ref sig .tc := ⟨.hbm, 246, rfl⟩
abbrev main_v197 : Ref sig .tc := ⟨.hbm, 247, rfl⟩
abbrev main_call9_v0 : Ref sig .tc := ⟨.hbm, 248, rfl⟩
abbrev main_v198 : Ref sig .tc := ⟨.hbm, 249, rfl⟩
abbrev main_v199 : Ref sig .tc := ⟨.hbm, 250, rfl⟩
abbrev main_v200 : Ref sig .tc := ⟨.hbm, 251, rfl⟩
abbrev main_v201 : Ref sig .tc := ⟨.hbm, 252, rfl⟩
abbrev main_v202 : Ref sig .tc := ⟨.hbm, 253, rfl⟩
abbrev main_v203 : Ref sig .tc := ⟨.hbm, 254, rfl⟩
abbrev main_v204 : Ref sig .tc := ⟨.hbm, 255, rfl⟩
abbrev main_v205 : Ref sig .tc := ⟨.hbm, 256, rfl⟩
abbrev main_v206 : Ref sig .tc := ⟨.hbm, 257, rfl⟩
abbrev main_v207 : Ref sig .tc := ⟨.hbm, 258, rfl⟩
abbrev main_v208 : Ref sig .tc := ⟨.hbm, 259, rfl⟩
abbrev main_v209 : Ref sig .tc := ⟨.hbm, 260, rfl⟩
abbrev main_v210 : Ref sig .tc := ⟨.hbm, 261, rfl⟩
abbrev main_v211 : Ref sig .tc := ⟨.hbm, 262, rfl⟩
abbrev main_cst_37 : Ref sig .tc := ⟨.hbm, 263, rfl⟩
abbrev main_v212 : Ref sig .tc := ⟨.hbm, 264, rfl⟩
abbrev main_cst_38 : Ref sig .tc := ⟨.hbm, 265, rfl⟩
abbrev main_v213 : Ref sig .tc := ⟨.hbm, 266, rfl⟩
abbrev main_v214 : Ref sig .tc := ⟨.hbm, 267, rfl⟩
abbrev main_v215 : Ref sig .tc := ⟨.hbm, 268, rfl⟩
abbrev main_cst_39 : Ref sig .tc := ⟨.hbm, 269, rfl⟩
abbrev main_v216 : Ref sig .tc := ⟨.hbm, 270, rfl⟩
abbrev main_v217 : Ref sig .tc := ⟨.hbm, 271, rfl⟩
abbrev main_call10_v0 : Ref sig .tc := ⟨.hbm, 272, rfl⟩
abbrev main_v218 : Ref sig .tc := ⟨.hbm, 273, rfl⟩
abbrev main_v219 : Ref sig .tc := ⟨.hbm, 274, rfl⟩
abbrev main_v220 : Ref sig .tc := ⟨.hbm, 275, rfl⟩
abbrev main_cst_40 : Ref sig .tc := ⟨.hbm, 276, rfl⟩
abbrev main_v221 : Ref sig .tc := ⟨.hbm, 277, rfl⟩
abbrev main_cst_41 : Ref sig .tc := ⟨.hbm, 278, rfl⟩
abbrev main_v222 : Ref sig .tc := ⟨.hbm, 279, rfl⟩
abbrev main_v223 : Ref sig .tc := ⟨.hbm, 280, rfl⟩
abbrev main_v224 : Ref sig .tc := ⟨.hbm, 281, rfl⟩
abbrev main_v225 : Ref sig .tc := ⟨.hbm, 282, rfl⟩
abbrev main_v226 : Ref sig .tc := ⟨.hbm, 283, rfl⟩
abbrev main_cst_42 : Ref sig .tc := ⟨.hbm, 284, rfl⟩
abbrev main_v227 : Ref sig .tc := ⟨.hbm, 285, rfl⟩
abbrev main_v228 : Ref sig .tc := ⟨.hbm, 286, rfl⟩
abbrev main_v229 : Ref sig .tc := ⟨.hbm, 287, rfl⟩
abbrev main_v230 : Ref sig .tc := ⟨.hbm, 288, rfl⟩
abbrev main_v231 : Ref sig .tc := ⟨.hbm, 289, rfl⟩
abbrev main_v232 : Ref sig .tc := ⟨.hbm, 290, rfl⟩
abbrev main_v233 : Ref sig .tc := ⟨.hbm, 291, rfl⟩
abbrev main_v234 : Ref sig .tc := ⟨.hbm, 292, rfl⟩
abbrev main_v235 : Ref sig .tc := ⟨.hbm, 293, rfl⟩
abbrev main_v236 : Ref sig .tc := ⟨.hbm, 294, rfl⟩
abbrev main_cst_43 : Ref sig .tc := ⟨.hbm, 295, rfl⟩
abbrev main_v237 : Ref sig .tc := ⟨.hbm, 296, rfl⟩
abbrev main_v238 : Ref sig .tc := ⟨.hbm, 297, rfl⟩
abbrev main_v239 : Ref sig .tc := ⟨.hbm, 298, rfl⟩

abbrev nD : Nat := 1
abbrev τ : Topo := Topo.v7x

variable {F : FTy → Type} [FloatOps F]
-- ==== Proof.Spec.lean ====
/- The loss, element by element, over the extended reals.

   An element has a label `l`, a logit `x` and a weight `w`. Its `gap` is the distance between the predicted probability
   and the label, its `entropy` the sigmoid cross entropy, and it lies in bin `i` of ten when its gap is at least `i/10`
   and below the next edge and its weight is positive. A gap is never above 1, so any last edge above 1 is the same edge
   (`lt_edge_last`). -/
module

public import Idealize.ShloMosaic.Lib.IdealHost
public import Idealize.ShloMosaic.Lib.Pointwise

@[expose] public section

noncomputable section

namespace Ghm

open Idealize.ShloMosaic

/-- The distance between the predicted probability and the label: `1 - p` at label one, else `p`. -/
def gap (l : BitVec 32) (x : EReal) : EReal := if l = 1#32 then 1 - Ideal.logistic x else Ideal.logistic x

/-- The sigmoid cross entropy of a logit against a label. -/
def entropy (l : BitVec 32) (x : EReal) : EReal :=
  max x 0 - x * ((l.toInt : ℝ) : EReal) + Ideal.log1p (Ideal.exp (-max x (-x)))

/-- The lower edge of bin `i`, a real: `i/10` for the ten bins, and `i` from the tenth on, above every gap. -/
def edgeR (i : ℕ) : ℝ := if i < 10 then i / 10 else i

/-- The lower edge of bin `i`. -/
def edge (i : ℕ) : EReal := (edgeR i : EReal)

/-- Element `(l, x, w)` lies in bin `i`. -/
def InBin (i : ℕ) (l : BitVec 32) (x w : EReal) : Prop := edge i ≤ gap l x ∧ gap l x < edge (i + 1) ∧ 0 < w

instance (i : ℕ) (l : BitVec 32) (x w : EReal) : Decidable (InBin i l x w) := Classical.propDecidable _

theorem edgeR_strictMono : StrictMono edgeR := strictMono_nat_of_lt_succ fun i => by
  have h0 : (0 : ℝ) ≤ i := Nat.cast_nonneg i
  unfold edgeR
  push_cast
  split_ifs with h h' h'
  · linarith
  · linarith
  · omega
  · linarith

/-- An element lies in at most one bin. -/
theorem inBin_unique {i i' : ℕ} {l : BitVec 32} {x w : EReal} (h : InBin i l x w) (h' : InBin i' l x w) : i = i' := by
  have key : ∀ {a b : ℕ}, edge a ≤ gap l x → gap l x < edge (b + 1) → a ≤ b := fun {a b} ha hb => by
    have : edgeR a < edgeR (b + 1) := EReal.coe_lt_coe_iff.1 (lt_of_le_of_lt ha hb)
    exact Nat.lt_succ_iff.1 (edgeR_strictMono.lt_iff_lt.1 this)
  exact le_antisymm (key h.1 h'.2.1) (key h'.1 h.2.1)

theorem logistic_nonneg (x : EReal) : 0 ≤ Ideal.logistic x := by
  induction x with
  | bot => simp
  | coe r => rw [Ideal.logistic_coe]; exact EReal.coe_nonneg.2 (by positivity)
  | top => simp

theorem logistic_le_one (x : EReal) : Ideal.logistic x ≤ 1 := by
  induction x with
  | bot => simp
  | coe r =>
    rw [Ideal.logistic_coe, ← EReal.coe_one]
    exact EReal.coe_le_coe_iff.2 (inv_le_one_of_one_le₀ (by linarith [Real.exp_pos (-r)]))
  | top => simp

/-- A gap is at most one. -/
theorem gap_le_one (l : BitVec 32) (x : EReal) : gap l x ≤ 1 := by
  unfold gap
  split_ifs
  · exact le_trans (EReal.sub_le_sub le_rfl (logistic_nonneg x)) (by simp)
  · exact logistic_le_one x

/-- Every last edge above one bounds the same gaps: all of them. -/
theorem lt_edge_last {e : EReal} (he : 1 < e) (l : BitVec 32) (x : EReal) : gap l x < e ↔ gap l x < edge 10 := by
  have h10 : (1 : EReal) < edge 10 := by
    unfold edge edgeR
    rw [if_neg (by norm_num), ← EReal.coe_one, EReal.coe_lt_coe_iff]; norm_num
  exact ⟨fun _ => lt_of_le_of_lt (gap_le_one l x) h10, fun _ => lt_of_le_of_lt (gap_le_one l x) he⟩

/-! ## Masks as propositions -/

theorem select_ofBool (p : Prop) [Decidable p] {α : Type} (a b : α) :
    Scalar.select (BitVec.ofBool (decide p)) a b = if p then a else b := by
  by_cases h : p <;> simp [h, Scalar.select]

theorem select_eq {n : ℕ} (l m : BitVec n) {α : Type} (a b : α) :
    Scalar.select (IntOp.cmpi .eq l m) a b = if l = m then a else b := by
  rw [show IntOp.cmpi .eq l m = BitVec.ofBool (l == m) from rfl, beq_eq_decide]
  exact select_ofBool _ _ _

/-- A mask's bit, converted, is one or zero. -/
theorem bit_value (p : Prop) [Decidable p] : (((BitVec.ofBool (decide p)).toNat : ℝ) : EReal) = if p then 1 else 0 := by
  by_cases h : p <;> simp [h]

theorem andi_ofBool (p q : Prop) [Decidable p] [Decidable q] :
    IntOp.andi (BitVec.ofBool (decide p)) (BitVec.ofBool (decide q)) = BitVec.ofBool (decide (p ∧ q)) := by
  by_cases hp : p <;> by_cases hq : q <;> simp [hp, hq, IntOp.andi]

/-- The three comparisons that put an element in bin `b`, for any edges that bound the gaps as the bin's edges do. -/
theorem inBin_mask (b : ℕ) (l : BitVec 32) (x w lo hi : EReal) (hlo : lo = edge b)
    (hhi : gap l x < hi ↔ gap l x < edge (b + 1)) :
    IntOp.andi (IntOp.andi (BitVec.ofBool (decide (lo ≤ gap l x))) (BitVec.ofBool (decide (gap l x < hi))))
      (BitVec.ofBool (decide (0 < w))) = BitVec.ofBool (decide (InBin b l x w)) := by
  rw [andi_ofBool, andi_ofBool]
  refine congrArg BitVec.ofBool (decide_eq_decide.2 ?_)
  unfold InBin
  rw [hlo, hhi, and_assoc]

end Ghm

end
-- ==== Proof.Block.lean ====
/- What one grid point adds to the scratch: for each of the ten bins, how many of the block's elements lie in it, and the
   sum of their losses. Row 0 of the scratch holds the counts and row 1 the sums of losses; the two are one sum over the
   block, of the element's `mark`, which is 1 for the count and the cross entropy for the loss. -/
module

public import proofs.«01_k».proof.Proof.Gen.KernelIdeal.Value
public import Idealize.ShloMosaic.Lib.Pipeline.ValueKit
public import Idealize.ShloMosaic.Lib.Pipeline.ReadBack
public import Idealize.ShloMosaic.Lib.Pointwise
public import Idealize.ShloMosaic.Lib.KernelVsHost
public import proofs.«01_k».proof.Proof.Spec

@[expose] public section

set_option maxRecDepth 16384

noncomputable section
namespace Cert.KernelIdeal.Value
open Cert.KernelIdeal Cert.KernelIdeal.Gen Idealize.ShloMosaic Idealize.ShloMosaic.TcCoe Idealize.SL.Sem
open Ghm

/-- What an element of a bin adds to the scratch: one to row 0, its cross entropy to row 1. -/
def mark (r : ℕ) (l : BitVec 32) (x : EReal) : EReal := if r = 0 then 1 else entropy l x

/-- What a block adds to row `r`, bin `b` of the scratch. -/
def blockTerm (l : Vec Ideal S720x1024 .i32) (x w : Vec Ideal S720x1024 .f32) (r b : ℕ) : EReal :=
  ∑ j, if InBin b (l j) (x j) (w j) then mark r (l j) (x j) else 0

/-! ## The edges as the kernel has them -/

/-- The kernel's lower edge of bin `i`. -/
def kEdge : ℕ → Ideal .f32
  | 0 => Scalar.ofBits .f32 0x00000000#32
  | 1 => Named.named κ "edge1" 0x3DCCCCCD#32
  | 2 => Named.named κ "edge2" 0x3E4CCCCD#32
  | 3 => Named.named κ "edge3" 0x3E99999A#32
  | 4 => Named.named κ "edge4" 0x3ECCCCCD#32
  | 5 => Scalar.ofBits .f32 0x3F000000#32
  | 6 => Named.named κ "edge6" 0x3F19999A#32
  | 7 => Named.named κ "edge7" 0x3F333333#32
  | 8 => Named.named κ "edge8" 0x3F4CCCCD#32
  | 9 => Named.named κ "edge9" 0x3F666666#32
  | _ => Scalar.ofBits .f32 0x3F800008#32

theorem half_word : Ideal.ofBits .f32 0x3F000000#32 = ((1 / 2 : ℝ) : EReal) := by
  simp [Ideal.ofBits, Ideal.ieee, -EReal.coe_mul]; norm_num

theorem last_word : Ideal.ofBits .f32 0x3F800008#32 = ((1048577 / 1048576 : ℝ) : EReal) := by
  simp [Ideal.ofBits, Ideal.ieee, -EReal.coe_mul]; norm_num

/-- A named edge is the real that it names. -/
theorem named_edge (n : String) (w : BitVec 32) (q r : ℝ) (h : κ n = some (q : EReal)) (hq : q = r) :
    (Named.named (F := Ideal) κ n (φ := .f32) w : EReal) = (r : EReal) :=
  (IdealRules.named_const.ideal_named_scalar _ _ _ _ h).trans (congrArg _ hq)

/-- Below ten the kernel's edges are the tenths. -/
theorem kEdge_eq (i : ℕ) (hi : i < 10) : (kEdge i : EReal) = edge i := by
  unfold edge edgeR
  rw [if_pos hi]
  interval_cases i
  · exact Ideal.ofBits_zero_f32.trans (by simp)
  · exact named_edge _ _ _ _ rfl (by norm_num)
  · exact named_edge _ _ _ _ rfl (by norm_num)
  · exact named_edge _ _ _ _ rfl (by norm_num)
  · exact named_edge _ _ _ _ rfl (by norm_num)
  · exact half_word.trans (congrArg _ (by norm_num))
  · exact named_edge _ _ _ _ rfl (by norm_num)
  · exact named_edge _ _ _ _ rfl (by norm_num)
  · exact named_edge _ _ _ _ rfl (by norm_num)
  · exact named_edge _ _ _ _ rfl (by norm_num)

/-- The kernel's upper edges bound the gaps that the edges bound: the last is above one. -/
theorem lt_kEdge (i : ℕ) (hi : i < 10) (l : BitVec 32) (x : EReal) :
    gap l x < (kEdge (i + 1) : EReal) ↔ gap l x < edge (i + 1) := by
  rcases Nat.lt_or_ge (i + 1) 10 with h | h
  · rw [kEdge_eq _ h]
  · obtain rfl : i = 9 := by omega
    refine lt_edge_last ?_ l x
    show (1 : EReal) < Ideal.ofBits .f32 0x3F800008#32
    rw [last_word, ← EReal.coe_one, EReal.coe_lt_coe_iff]; norm_num

/-! ## One bin's step -/

/-- The mask of the gaps between two edges, at the elements `v`. -/
def between (lo hi : Ideal .f32) (g : FVec Ideal S720x1024 .f32) (v : IVec S720x1024 1) : IVec S720x1024 1 :=
  andi (andi (cmpf .oge g (broadcast S720x1024 lo)) (cmpf .olt g (broadcast S720x1024 hi))) v

/-- The sum of a block, added to a number. -/
def addTotal (f : FVec Ideal S720x1024 .f32) (acc : Ideal .f32) : Ideal .f32 :=
  Scalar.addf acc (extractAt ![0, 0, 0] (shapeCast S1x1x1 (multiReduction .add [1, 2] S1
    (shapeCast S1x720x1024 f shapeCasts_S720x1024_S1x720x1024) 0x00000000#32 reduces_S1x720x1024_S1 (.inl rfl) rfl)
    shapeCasts_S1_S1x1x1) inpos_S1x1x1_p0_0_0)

theorem addTotal_eq (f : FVec Ideal S720x1024 .f32) (acc : Ideal .f32) : (addTotal f acc : EReal) = (acc : EReal) + ∑ j, (f j : EReal) := by
  refine congrArg ((acc : EReal) + ·) ?_
  refine (Ideal.multiReduction_add_total _ _ reduces_S1x720x1024_S1 (by decide) (.inl rfl) rfl _).trans ?_
  exact Equiv.sum_comp (Shape.reshapeEquiv shapeCasts_S720x1024_S1x720x1024) f

theorem gap_read (l : Vec Ideal S720x1024 .i32) (x : Vec Ideal S720x1024 .f32) (j : S720x1024.Idx) :
    (k0_pay12 l x j : EReal) = gap (l j) (x j) := by
  unfold k0_pay12 k0_pay11 k0_pay10 gap
  pointwise
  exact select_eq _ _ _ _

theorem entropy_read (l : Vec Ideal S720x1024 .i32) (x : Vec Ideal S720x1024 .f32) (j : S720x1024.Idx) :
    (k0_pay13 l x j : EReal) = entropy (l j) (x j) := by
  unfold k0_pay13 k0_pay11 k0_pay10 entropy
  pointwise
  rw [zero_sub]
  rfl

/-- The mask of bin `b` at an element. -/
theorem between_read (b : ℕ) (hb : b < 10) (l : Vec Ideal S720x1024 .i32) (x w : Vec Ideal S720x1024 .f32) (j : S720x1024.Idx) :
    between (kEdge b) (kEdge (b + 1)) (k0_pay12 l x) (k0_pay14 w) j = BitVec.ofBool (decide (InBin b (l j) (x j) (w j))) := by
  unfold between k0_pay14
  pointwise
  rw [gap_read]
  exact inBin_mask b (l j) (x j) (w j) _ _ (kEdge_eq b hb) (lt_kEdge b hb _ _)

/-- The step of a bin's count: the number of the block's elements in the bin, added. -/
def countStep (m : IVec S720x1024 1) (acc : Ideal .f32) : Ideal .f32 :=
  addTotal (sitofp .f32 (extui 32 m natLt_1_32)) acc

/-- The step of a bin's loss: the sum of the losses of the block's elements in the bin, added. -/
def lossStep (m : IVec S720x1024 1) (c : FVec Ideal S720x1024 .f32) (acc : Ideal .f32) : Ideal .f32 :=
  addTotal (select m c (broadcast S720x1024 (Scalar.ofBits .f32 0x00000000#32))) acc

theorem countStep_eq (b : ℕ) (hb : b < 10) (l : Vec Ideal S720x1024 .i32) (x w : Vec Ideal S720x1024 .f32) (acc : Ideal .f32) :
    (countStep (between (kEdge b) (kEdge (b + 1)) (k0_pay12 l x) (k0_pay14 w)) acc : EReal) = (acc : EReal) + blockTerm l x w 0 b := by
  unfold countStep
  rw [sitofp_extui_eq_uitofp]
  refine (addTotal_eq _ _).trans (congrArg ((acc : EReal) + ·) (Finset.sum_congr rfl fun j _ => ?_))
  show (((between (kEdge b) (kEdge (b + 1)) (k0_pay12 l x) (k0_pay14 w) j).toNat : ℝ) : EReal) = _
  rw [between_read b hb, bit_value]
  rfl

theorem lossStep_eq (b : ℕ) (hb : b < 10) (l : Vec Ideal S720x1024 .i32) (x w : Vec Ideal S720x1024 .f32) (acc : Ideal .f32) :
    (lossStep (between (kEdge b) (kEdge (b + 1)) (k0_pay12 l x) (k0_pay14 w)) (k0_pay13 l x) acc : EReal)
      = (acc : EReal) + blockTerm l x w 1 b := by
  refine (addTotal_eq _ _).trans (congrArg ((acc : EReal) + ·) (Finset.sum_congr rfl fun j _ => ?_))
  show (Scalar.select (between (kEdge b) (kEdge (b + 1)) (k0_pay12 l x) (k0_pay14 w) j) (k0_pay13 l x j : EReal)
    (Ideal.ofBits .f32 0x00000000#32) : EReal) = _
  rw [between_read b hb, select_ofBool, entropy_read, Ideal.ofBits_zero_f32]
  rfl

/-! ## The twenty stores of a point -/

/-- The scratch after a point that found `X` in it. -/
def scratchStep (X : S2x10.Idx → EReal) (l : Vec Ideal S720x1024 .i32) (x w : Vec Ideal S720x1024 .f32) (y : S2x10.Idx) : EReal :=
  X y + blockTerm l x w (y 0).val (y 1).val

/-- The rectangle of one cell. -/
abbrev cellRect (r b : ℕ) (inb : ∀ a, (![r, b] : Fin 2 → ℕ) a + (![1, 1] : Fin 2 → ℕ) a ≤ S2x10.size a) : Rect S2x10 :=
  Rect.unit ![r, b] ![1, 1] inb

theorem cell_row (r b : ℕ) (inb) (z : (cellRect r b inb).shape.Idx) : (((cellRect r b inb).emb z) 0).val = r := by
  have : (z 0).val < 1 := (z 0).isLt
  rw [Rect.emb_apply]; show r + 1 * (z 0).val = r; omega

theorem cell_bin (r b : ℕ) (inb) (z : (cellRect r b inb).shape.Idx) : (((cellRect r b inb).emb z) 1).val = b := by
  have : (z 1).val < 1 := (z 1).isLt
  rw [Rect.emb_apply]; show b + 1 * (z 1).val = b; omega

/-- At the cell of row `r` and bin `b` the scratch after a point is the word read there and the block's term. -/
theorem scratchStep_cell (X : S2x10.Idx → EReal) (l : Vec Ideal S720x1024 .i32) (x w : Vec Ideal S720x1024 .f32) (r b : ℕ)
    (inb) (z : (cellRect r b inb).shape.Idx) :
    scratchStep X l x w ((cellRect r b inb).emb z) = X ((cellRect r b inb).emb z) + blockTerm l x w r b := by
  unfold scratchStep
  rw [cell_row, cell_bin]

/-- A cell has one index. -/
theorem cell_unique (r b : ℕ) (inb : ∀ a, (![r, b] : Fin 2 → ℕ) a + (![1, 1] : Fin 2 → ℕ) a ≤ S2x10.size a)
    (z z' : (cellRect r b inb).shape.Idx) : z = z' := by
  funext a
  refine Fin.ext ?_
  have h : ∀ u : (cellRect r b inb).shape.Idx, (u a).val < 1 := fun u => by
    have := (u a).isLt
    match a with
    | ⟨0, _⟩ => exact this
    | ⟨1, _⟩ => exact this
  have := h z; have := h z'; omega

theorem cell_inb (r b : ℕ) (hr : r < 2) (hb : b < 10) : ∀ a, (![r, b] : Fin 2 → ℕ) a + (![1, 1] : Fin 2 → ℕ) a ≤ S2x10.size a
  | ⟨0, _⟩ => hr
  | ⟨1, _⟩ => hb

section Pieces
variable (X : S2x10.Idx → EReal) (l : Vec Ideal S720x1024 .i32) (x w : Vec Ideal S720x1024 .f32)
  (a : ∀ r b : ℕ, (∀ k, (![r, b] : Fin 2 → ℕ) k + (![1, 1] : Fin 2 → ℕ) k ≤ S2x10.size k) → Ideal .f32)

/-- The stores of the first `n` bins, last first, where the words read before them are `a`. -/
def stores : (n : ℕ) → n ≤ 10 → List (View.Piece (Elt Ideal) S2x10 .f32)
  | 0, _ => []
  | b + 1, h =>
    ⟨cellRect 1 b (cell_inb 1 b (by decide) h), fun _ =>
      lossStep (between (kEdge b) (kEdge (b + 1)) (k0_pay12 l x) (k0_pay14 w)) (k0_pay13 l x) (a 1 b (cell_inb 1 b (by decide) h))⟩ ::
    ⟨cellRect 0 b (cell_inb 0 b (by decide) h), fun _ =>
      countStep (between (kEdge b) (kEdge (b + 1)) (k0_pay12 l x) (k0_pay14 w)) (a 0 b (cell_inb 0 b (by decide) h))⟩ ::
    stores b (Nat.le_of_succ_le h)

/-- Every store writes the scratch after the point, at its cell. -/
theorem stores_pieces (ha : ∀ r b inb z, (a r b inb : EReal) = X ((cellRect r b inb).emb z)) :
    ∀ (n : ℕ) (h : n ≤ 10), View.PiecesOf (e := .f32) (scratchStep X l x w) (stores l x w a n h)
  | 0, _ => trivial
  | b + 1, h =>
    ⟨fun z => by
      rw [scratchStep_cell, ← ha 1 b _ z]
      exact lossStep_eq b h l x w _,
    fun z => by
      rw [scratchStep_cell, ← ha 0 b _ z]
      exact countStep_eq b h l x w _,
    stores_pieces ha b (Nat.le_of_succ_le h)⟩

end Pieces

/-- Stores whose last `n` are blocks of one function that cover an index leave that function there. -/
theorem canon_of_last_stores {s : Shape} {e : EltTy} (G : s.Idx → Elt Ideal e) (n : ℕ) (L : List (View.Piece (Elt Ideal) s e))
    (h : View.PiecesOf G (L.take n)) (y : s.Idx) (hc : ∃ p ∈ L.take n, y ∈ p.1.set) : View.canon L y = G y := by
  conv_lhs => rw [← List.take_append_drop n L]
  exact View.canon_append_of_piecesOf G _ _ h y hc

theorem cell_pos (r b : ℕ) (inb) : 0 < (cellRect r b inb).shape.numel := by
  show 0 < (⟨2, ![1, 1]⟩ : Shape).numel
  decide

/-- A word read of a cell is the scratch at the cell. -/
theorem load_cell (X : Vec Ideal S2x10 .f32) (r b : ℕ) (inb) (z : (cellRect r b inb).shape.Idx) (h) :
    (View.ld X (cellRect r b inb) (Shape.Idx.first h) : EReal) = X ((cellRect r b inb).emb z) :=
  congrArg X (congrArg _ (cell_unique r b inb _ _))

section Points
variable (c : Dev nD) (i : grid0.Coords) (arg1 : Memref sig .tc .vmem S720x1024 .i32) (harg1 : arg1.IsWhole)
  (arg2 : Memref sig .tc .vmem S720x1024 .f32) (harg2 : arg2.IsWhole) (arg3 : Memref sig .tc .vmem S720x1024 .f32)
  (harg3 : arg3.IsWhole) (arg4 : Memref sig .tc .smem S1x1 .f32) (harg4 : arg4.IsWhole)
  (arg5 : Memref sig .tc .smem S2x10 .f32) (harg5 : arg5.IsWhole)
  (x0 : Vec Ideal S720x1024 .i32) (x1 x2 : Vec Ideal S720x1024 .f32) (xs0 : Vec Ideal S2x10 .f32)

/-- The scratch after the first point, which clears it: the block's terms. -/
theorem scratch_A (hc0 : cond0_0 i) (hc1 : ¬cond0_1 i) (y : S2x10.Idx) :
    sout0_A_0 (F := Ideal) c i arg1 harg1 arg2 harg2 arg3 harg3 arg4 harg4 arg5 harg5 hc0 hc1 x0 x1 x2 y
      = scratchStep (fun _ => 0) x0 x1 x2 y := by
  frame_open
  simp (disch := decide) only [↓ View.readCov_skip, ↓ View.readCov_cons_toLoadRect, ↓ View.readCov_fill]
  frame_out
  refine canon_of_last_stores (e := .f32) (scratchStep (fun _ => 0) x0 x1 x2) 20 _ ?_ y ?_
  · exact stores_pieces (fun _ => 0) x0 x1 x2 (fun _ _ _ => Scalar.ofBits .f32 0x00000000#32)
      (fun _ _ _ _ => Ideal.ofBits_zero_f32) 10 le_rfl
  · exact View.cover_of_tiled_head _ _ _ (by rfl) y

/-- The scratch after a point in the middle of the grid. -/
theorem scratch_B (hc0 : ¬cond0_0 i) (hc1 : ¬cond0_1 i) (y : S2x10.Idx) :
    sout0_B_0 (F := Ideal) c i arg1 harg1 arg2 harg2 arg3 harg3 arg4 harg4 arg5 harg5 hc0 hc1 x0 x1 x2 xs0 y
      = scratchStep xs0 x0 x1 x2 y := by
  frame_open
  frame_out
  refine canon_of_last_stores (e := .f32) (scratchStep xs0 x0 x1 x2) 20 _ ?_ y ?_
  · exact stores_pieces xs0 x0 x1 x2 (fun r b inb => View.ld xs0 (cellRect r b inb) (Shape.Idx.first (cell_pos r b inb)))
      (fun r b inb z => load_cell xs0 r b inb z _) 10 le_rfl
  · exact View.cover_of_tiled_head _ _ _ (by rfl) y

/-- The scratch after the last point. -/
theorem scratch_C (hc0 : ¬cond0_0 i) (hc1 : cond0_1 i) (y : S2x10.Idx) :
    sout0_C_0 (F := Ideal) c i arg1 harg1 arg2 harg2 arg3 harg3 arg4 harg4 arg5 harg5 hc0 hc1 x0 x1 x2 xs0 y
      = scratchStep xs0 x0 x1 x2 y := by
  frame_open
  frame_out
  refine canon_of_last_stores (e := .f32) (scratchStep xs0 x0 x1 x2) 20 _ ?_ y ?_
  · exact stores_pieces xs0 x0 x1 x2 (fun r b inb => View.ld xs0 (cellRect r b inb) (Shape.Idx.first (cell_pos r b inb)))
      (fun r b inb z => load_cell xs0 r b inb z _) 10 le_rfl
  · exact View.cover_of_tiled_head _ _ _ (by rfl) y

end Points

end Cert.KernelIdeal.Value
-- ==== Proof.Algebra.lean ====
/- Sums over bins of extended reals.

   A finite set of elements is sorted into disjoint bins; `B i j` says that element `j` lies in bin `i`, and `f j` is the
   loss of element `j`. The mean over the bins that hold something of each bin's mean loss (`binMean`) is the sum of the
   losses weighted by `T / (size of the element's bin) / (number of bins that hold something)`, divided by `T`
   (`weightedMean`), for every real `T ≥ 1`. The losses are arbitrary extended reals: every factor that is moved across a
   sum is a positive real, and multiplication by a positive real distributes over any finite sum. -/
module

public import Idealize.ShloMosaic.Lib.IdealHost
public import Idealize.ShloMosaic.Lib.Pointwise

@[expose] public section

noncomputable section

namespace Ghm

open Idealize.ShloMosaic

variable {ι : Type} [Fintype ι] (B : ℕ → ι → Prop) [∀ i j, Decidable (B i j)] (f : ι → EReal)

/-- The mean, over the first `K` bins of a positive count `c`, of the quotient of the sum `s` by the count; zero when
there is no such bin. -/
def meanOf (c s : ℕ → EReal) (K : ℕ) : EReal :=
  if 0 < ∑ i ∈ Finset.range K, (if 0 < c i then (1 : EReal) else 0) then
    Ideal.div (∑ i ∈ Finset.range K, if 0 < c i then Ideal.div (s i) (max (c i) 1) else 0)
      (max (∑ i ∈ Finset.range K, if 0 < c i then (1 : EReal) else 0) 1)
  else 0

theorem meanOf_congr {c c' s s' : ℕ → EReal} {K : ℕ} (hc : ∀ i < K, c i = c' i) (hs : ∀ i < K, s i = s' i) :
    meanOf c s K = meanOf c' s' K := by
  have h1 : (∑ i ∈ Finset.range K, if 0 < c i then (1 : EReal) else 0) = ∑ i ∈ Finset.range K, if 0 < c' i then (1 : EReal) else 0 :=
    Finset.sum_congr rfl fun i hi => by rw [hc i (Finset.mem_range.1 hi)]
  have h2 : (∑ i ∈ Finset.range K, if 0 < c i then Ideal.div (s i) (max (c i) 1) else 0)
      = ∑ i ∈ Finset.range K, if 0 < c' i then Ideal.div (s' i) (max (c' i) 1) else 0 :=
    Finset.sum_congr rfl fun i hi => by rw [hc i (Finset.mem_range.1 hi), hs i (Finset.mem_range.1 hi)]
  unfold meanOf
  rw [h1, h2]

/-- The number of elements of bin `i`. -/
def count (i : ℕ) : EReal := ∑ j, if B i j then (1 : EReal) else 0

/-- The sum of the losses of the elements of bin `i`. -/
def loss (i : ℕ) : EReal := ∑ j, if B i j then f j else 0

/-- How many of the first `K` bins hold something. -/
def filled (K : ℕ) : EReal := ∑ i ∈ Finset.range K, if 0 < count B i then (1 : EReal) else 0

/-- The sum, over the first `K` bins that hold something, of the mean loss of the bin. -/
def meanSum (K : ℕ) : EReal :=
  ∑ i ∈ Finset.range K, if 0 < count B i then Ideal.div (loss B f i) (max (count B i) 1) else 0

/-- The mean, over the first `K` bins that hold something, of the mean loss of the bin; zero when every bin is empty. -/
def binMean (K : ℕ) : EReal :=
  if 0 < filled B K then Ideal.div (meanSum B f K) (max (filled B K) 1) else 0

theorem binMean_eq_meanOf (K : ℕ) : binMean B f K = meanOf (count B) (loss B f) K := rfl

/-- The weight of element `j` after the first `k` bins: `T` divided by the size of the last of them that holds it. -/
def weight (T : EReal) : ℕ → ι → EReal
  | 0, _ => 0
  | k + 1, j => if B k j ∧ 0 < count B k then Ideal.div T (max (count B k) 1) else weight T k j

/-- The weighted sum of the losses, divided by `T`. -/
def weightedMean (T : EReal) (K : ℕ) : EReal :=
  Ideal.div (∑ j, f j * if 0 < filled B K then Ideal.div (weight B T K j) (max (filled B K) 1) else weight B T K j) T

/-! ## Counts are natural numbers -/

/-- A sum of zeros and ones is the number of ones. -/
theorem sum_ite_one {α : Type} (s : Finset α) (p : α → Prop) [DecidablePred p] :
    (∑ a ∈ s, if p a then (1 : EReal) else 0) = (((s.filter p).card : ℝ) : EReal) := by
  rw [Finset.sum_ite, Finset.sum_const_zero, add_zero, Finset.sum_const, nsmul_one, EReal.coe_natCast]

/-- The number of elements of bin `i`, as a natural number. -/
def size (i : ℕ) : ℕ := (Finset.univ.filter (B i)).card

theorem count_eq (i : ℕ) : count B i = ((size B i : ℝ) : EReal) := sum_ite_one _ _

theorem count_pos (i : ℕ) : 0 < count B i ↔ 0 < size B i := by
  rw [count_eq, ← EReal.coe_zero, EReal.coe_lt_coe_iff]; exact Nat.cast_pos

theorem size_pos_of_mem {i : ℕ} {j : ι} (h : B i j) : 0 < size B i :=
  Finset.card_pos.2 ⟨j, Finset.mem_filter.2 ⟨Finset.mem_univ _, h⟩⟩

/-- The number of bins that hold something, as a natural number. -/
def filledN (K : ℕ) : ℕ := ((Finset.range K).filter fun i => 0 < count B i).card

theorem filled_eq (K : ℕ) : filled B K = ((filledN B K : ℝ) : EReal) := sum_ite_one _ _

theorem filled_pos (K : ℕ) : 0 < filled B K ↔ 0 < filledN B K := by
  rw [filled_eq, ← EReal.coe_zero, EReal.coe_lt_coe_iff]; exact Nat.cast_pos

/-- The larger of a real and one is the real `max x 1`. -/
theorem max_coe_one (x : ℝ) : max (x : EReal) 1 = ((max x 1 : ℝ) : EReal) := by
  rw [← EReal.coe_one, ← EReal.coe_strictMono.monotone.map_max]

theorem max_one_pos (x : ℝ) : 0 < max x 1 := lt_of_lt_of_le one_pos (le_max_right _ _)

/-- Division by the larger of a real and one is multiplication by a positive real. -/
theorem div_max_one (a : EReal) (x : ℝ) : Ideal.div a (max (x : EReal) 1) = a * ((1 / max x 1 : ℝ) : EReal) := by
  rw [max_coe_one, Ideal.div_coe (max_one_pos x).ne']

/-! ## Positive real factors move across sums -/

/-- Multiplication by a real that is not negative distributes over a finite sum of extended reals. -/
theorem sum_mul_coe {α : Type} (s : Finset α) (g : α → EReal) {r : ℝ} (hr : 0 ≤ r) :
    (∑ a ∈ s, g a) * (r : EReal) = ∑ a ∈ s, g a * (r : EReal) := by
  classical
  induction s using Finset.induction_on with
  | empty => simp
  | insert a s ha ih =>
    rw [Finset.sum_insert ha, Finset.sum_insert ha,
      EReal.right_distrib_of_nonneg_of_ne_top (EReal.coe_nonneg.2 hr) (EReal.coe_ne_top r), ih]

/-- An empty bin has no loss. -/
theorem loss_of_empty {i : ℕ} (h : ¬0 < size B i) : loss B f i = 0 :=
  Finset.sum_eq_zero fun j _ => if_neg fun hj => h (size_pos_of_mem B hj)

/-- The weight of an element is the sum over the bins of `T` over the bin's size, where the bin holds the element: at
    most one bin does. -/
theorem weight_eq (hB : ∀ i i' j, B i j → B i' j → i = i') (T : EReal) (K : ℕ) (j : ι) :
    weight B T K j = ∑ i ∈ Finset.range K, if B i j then Ideal.div T (max (count B i) 1) else 0 := by
  induction K with
  | zero => rfl
  | succ k ih =>
    rw [Finset.sum_range_succ]
    show (if B k j ∧ 0 < count B k then _ else _) = _
    by_cases h : B k j
    · rw [if_pos ⟨h, (count_pos B k).2 (size_pos_of_mem B h)⟩, if_pos h,
        Finset.sum_eq_zero fun i hi => if_neg fun hi' =>
          (Finset.mem_range.1 hi).ne (hB i k j hi' h), zero_add]
    · rw [if_neg fun hh => h hh.1, if_neg h, add_zero, ih]

/-- A factor that is zero off the one bin that holds the element moves inside the sum over the bins. -/
theorem mul_sum_bins (hB : ∀ i i' j, B i j → B i' j → i = i') (K : ℕ) (j : ι) (a : EReal) (v : ℕ → EReal) :
    a * (∑ i ∈ Finset.range K, if B i j then v i else 0) = ∑ i ∈ Finset.range K, if B i j then a * v i else 0 := by
  by_cases h : ∃ i ∈ Finset.range K, B i j
  · obtain ⟨i, hi, hij⟩ := h
    have hz : ∀ i' ∈ Finset.range K, i' ≠ i → ¬B i' j := fun i' _ hne h' => hne (hB i' i j h' hij)
    rw [Finset.sum_eq_single_of_mem i hi fun i' h' hne => if_neg (hz i' h' hne),
      Finset.sum_eq_single_of_mem i hi fun i' h' hne => if_neg (hz i' h' hne), if_pos hij, if_pos hij]
  · rw [Finset.sum_eq_zero fun i hi => if_neg fun h' => h ⟨i, hi, h'⟩,
      Finset.sum_eq_zero fun i hi => if_neg fun h' => h ⟨i, hi, h'⟩, mul_zero]

/-- The weighted sum of the losses, when bin `i` has the real weight `v i ≥ 0`, is the sum of the bins' losses times
    their weights. -/
theorem sum_weighted (hB : ∀ i i' j, B i j → B i' j → i = i') (K : ℕ) (v : ℕ → ℝ) (hv : ∀ i, 0 ≤ v i) :
    (∑ j, f j * ∑ i ∈ Finset.range K, if B i j then (v i : EReal) else 0)
      = ∑ i ∈ Finset.range K, loss B f i * (v i : EReal) := by
  simp only [mul_sum_bins B hB]
  rw [Finset.sum_comm]
  refine Finset.sum_congr rfl fun i _ => ?_
  rw [loss, sum_mul_coe _ _ (hv i)]
  refine Finset.sum_congr rfl fun j _ => ?_
  by_cases h : B i j
  · rw [if_pos h, if_pos h]
  · rw [if_neg h, if_neg h, zero_mul]

/-! ## The two means -/

/-- The two means agree, for disjoint bins and every real `T ≥ 1`. -/
theorem binMean_eq_weightedMean (hB : ∀ i i' j, B i j → B i' j → i = i') (T : ℝ) (hT : 1 ≤ T) (K : ℕ) :
    binMean B f K = weightedMean B f (T : EReal) K := by
  have hT0 : 0 < T := lt_of_lt_of_le one_pos hT
  have hdiv : ∀ i, Ideal.div (T : EReal) (max (count B i) 1) = ((T * (1 / max (size B i : ℝ) 1) : ℝ) : EReal) := fun i => by
    rw [count_eq, div_max_one, EReal.coe_mul]
  unfold binMean weightedMean
  by_cases hn : 0 < filled B K
  · simp only [if_pos hn]
    rw [filled_eq, div_max_one, Ideal.div_coe hT0.ne']
    simp only [filled_eq, div_max_one, weight_eq B hB, hdiv]
    set q : ℝ := 1 / max (filledN B K : ℝ) 1 with hq
    have hq0 : 0 ≤ q := (one_div_pos.2 (max_one_pos _)).le
    have hv : ∀ i, 0 ≤ T * (1 / max (size B i : ℝ) 1) * q := fun i =>
      mul_nonneg (mul_nonneg hT0.le (one_div_pos.2 (max_one_pos _)).le) hq0
    have hw : ∀ j, (∑ i ∈ Finset.range K, if B i j then ((T * (1 / max (size B i : ℝ) 1) : ℝ) : EReal) else 0) * (q : EReal)
        = ∑ i ∈ Finset.range K, if B i j then ((T * (1 / max (size B i : ℝ) 1) * q : ℝ) : EReal) else 0 := fun j => by
      rw [sum_mul_coe _ _ hq0]
      refine Finset.sum_congr rfl fun i _ => ?_
      by_cases h : B i j
      · rw [if_pos h, if_pos h, ← EReal.coe_mul]
      · rw [if_neg h, if_neg h, zero_mul]
    simp only [hw]
    rw [sum_weighted B f hB K _ hv, meanSum, sum_mul_coe _ _ hq0, sum_mul_coe _ _ (one_div_pos.2 hT0).le]
    refine Finset.sum_congr rfl fun i _ => ?_
    rw [mul_assoc, ← EReal.coe_mul]
    by_cases h : 0 < size B i
    · rw [if_pos ((count_pos B i).2 h), count_eq, div_max_one, mul_assoc, ← EReal.coe_mul]
      congr 2
      field_simp
    · rw [if_neg fun h' => h ((count_pos B i).1 h'), loss_of_empty B f h, zero_mul, zero_mul]
  · simp only [if_neg hn]
    have h0 : ∀ i ∈ Finset.range K, ¬0 < count B i := fun i hi h =>
      hn ((filled_pos B K).2 (Finset.card_pos.2 ⟨i, Finset.mem_filter.2 ⟨hi, h⟩⟩))
    have hw : ∀ j, weight B (T : EReal) K j = 0 := fun j => by
      rw [weight_eq B hB]
      exact Finset.sum_eq_zero fun i hi => if_neg fun h =>
        h0 i hi ((count_pos B i).2 (size_pos_of_mem B h))
    simp only [hw, mul_zero, Finset.sum_const_zero]
    rw [Ideal.zero_div (by exact_mod_cast hT0.ne')]

/-- A finite sum of extended reals none of which is `⊤` is not `⊤`. -/
theorem sum_ne_top {α : Type} (s : Finset α) (g : α → EReal) (h : ∀ a ∈ s, g a ≠ ⊤) : ∑ a ∈ s, g a ≠ ⊤ := by
  classical
  induction s using Finset.induction_on with
  | empty => simp
  | insert a s ha ih =>
    rw [Finset.sum_insert ha]
    exact EReal.add_ne_top (h a (Finset.mem_insert_self _ _)) (ih fun b hb => h b (Finset.mem_insert_of_mem hb))

/-- The larger of one and a value that is not `⊤` is a real that is at least one. -/
theorem exists_real_max_one {x : EReal} (hx : x ≠ ⊤) : ∃ T : ℝ, 1 ≤ T ∧ max x 1 = (T : EReal) := by
  induction x with
  | bot => exact ⟨1, le_rfl, by simp⟩
  | coe r => exact ⟨max r 1, le_max_right _ _, max_coe_one r⟩
  | top => exact absurd rfl hx

end Ghm

end
-- ==== Proof.Output.lean ====
/- What the last grid point writes to the result: the mean over the bins that hold something, of the twenty words that the
   scratch holds after that point. -/
module

public import proofs.«01_k».proof.Proof.Block
public import proofs.«01_k».proof.Proof.Algebra

@[expose] public section

set_option maxRecDepth 16384

noncomputable section
namespace Cert.KernelIdeal.Value
open Cert.KernelIdeal Cert.KernelIdeal.Gen Idealize.ShloMosaic Idealize.ShloMosaic.TcCoe Idealize.SL.Sem
open Ghm

/-- The scalar program of the last point, from the ten counts and the ten sums of losses. -/
theorem output_read (c s : ℕ → Ideal .f32) :
    (k0_pay2 (F := Ideal)
      (k0_pay8 (k0_pay6 (k0_pay4 (c 0) (c 1) (c 2)) (c 3) (c 4) (c 5))
        (Scalar.cmpf CmpFPredicate.ogt (c 6) (FloatOps.ofBits FTy.f32 0#32)) (c 7) (c 8))
      (Scalar.cmpf CmpFPredicate.ogt (c 9) (FloatOps.ofBits FTy.f32 0#32))
      (k0_pay9 (k0_pay5 (k0_pay3 (c 0) (s 0) (c 1) (s 1) (c 2) (s 2)) (c 3) (s 3) (c 4) (s 4) (c 5) (s 5)) (s 6)
        (Scalar.cmpf CmpFPredicate.ogt (c 6) (FloatOps.ofBits FTy.f32 0#32)) (k0_pay7 (c 6)) (c 7) (s 7) (c 8) (s 8) (c 9) (s 9))
      (FloatOps.ofBits FTy.f32 1065353216#32) (FloatOps.ofBits FTy.f32 0#32) : EReal) = meanOf c s 10 := by
  have ha (a b : Ideal .f32) : Scalar.addf a b = ((a : EReal) + (b : EReal) : EReal) := rfl
  have hx (a b : Ideal .f32) : Scalar.maximumf a b = (max (a : EReal) (b : EReal) : EReal) := rfl
  have hd (a b : Ideal .f32) : Scalar.divf a b = Ideal.div a b := rfl
  have h0 : (Scalar.ofBits .f32 0#32 : Ideal .f32) = (0 : EReal) := Ideal.ofBits_zero_f32
  have h1 : (Scalar.ofBits .f32 1065353216#32 : Ideal .f32) = (1 : EReal) := Ideal.ofBits_one_f32
  have h0' : (FloatOps.ofBits .f32 0#32 : Ideal .f32) = (0 : EReal) := Ideal.ofBits_zero_f32
  have h1' : (FloatOps.ofBits .f32 1065353216#32 : Ideal .f32) = (1 : EReal) := Ideal.ofBits_one_f32
  have hm (a : Ideal .f32) : Scalar.cmpf CmpFPredicate.ogt a ((0 : EReal) : Ideal .f32)
      = BitVec.ofBool (decide ((0 : EReal) < a)) := by
    rfl
  unfold k0_pay2 k0_pay8 k0_pay6 k0_pay4 k0_pay9 k0_pay5 k0_pay3 k0_pay7 meanOf
  simp only [Finset.sum_range_succ, Finset.sum_range_zero, h0, h1, h0', h1', ha, hx, hd, hm, select_ofBool]

section Points
variable (c : Dev nD) (i : grid0.Coords) (arg1 : Memref sig .tc .vmem S720x1024 .i32) (harg1 : arg1.IsWhole)
  (arg2 : Memref sig .tc .vmem S720x1024 .f32) (harg2 : arg2.IsWhole) (arg3 : Memref sig .tc .vmem S720x1024 .f32)
  (harg3 : arg3.IsWhole) (arg4 : Memref sig .tc .smem S1x1 .f32) (harg4 : arg4.IsWhole)
  (arg5 : Memref sig .tc .smem S2x10 .f32) (harg5 : arg5.IsWhole)
  (x0 : Vec Ideal S720x1024 .i32) (x1 x2 : Vec Ideal S720x1024 .f32) (xs0 : Vec Ideal S2x10 .f32)

/-- The count of bin `b` after the last point, as the program computes it. -/
def lastCount (b : ℕ) : Ideal .f32 := if h : b < 10 then
  countStep (between (kEdge b) (kEdge (b + 1)) (k0_pay12 x0 x1) (k0_pay14 x2))
    (View.ld xs0 (cellRect 0 b (cell_inb 0 b (by decide) h)) (Shape.Idx.first (cell_pos 0 b _))) else (0 : EReal)

/-- The sum of the losses of bin `b` after the last point, as the program computes it. -/
def lastLoss (b : ℕ) : Ideal .f32 := if h : b < 10 then
  lossStep (between (kEdge b) (kEdge (b + 1)) (k0_pay12 x0 x1) (k0_pay14 x2)) (k0_pay13 x0 x1)
    (View.ld xs0 (cellRect 1 b (cell_inb 1 b (by decide) h)) (Shape.Idx.first (cell_pos 1 b _))) else (0 : EReal)

/-- The word that the last point writes, from what the scratch held before it. -/
theorem output_C (hc0 : ¬cond0_0 i) (hc1 : cond0_1 i) (T : ℕ → ℕ → EReal) (hT : ∀ r b inb z, (xs0 ((cellRect r b inb).emb z) : EReal) = T r b)
    (y : S1x1.Idx) :
    (out0_C_3 (F := Ideal) c i arg1 harg1 arg2 harg2 arg3 harg3 arg4 harg4 arg5 harg5 hc0 hc1 x0 x1 x2 xs0 y : EReal)
      = meanOf (fun b => T 0 b + blockTerm x0 x1 x2 0 b) (fun b => T 1 b + blockTerm x0 x1 x2 1 b) 10 := by
  frame_open
  simp (disch := decide) only [↓ View.readCov_skip, ↓ View.readCov_cons_toLoadRect, ↓ View.readCov_fill]
  frame_out
  refine (output_read (lastCount x0 x1 x2 xs0) (lastLoss x0 x1 x2 xs0)).trans (meanOf_congr (fun b hb => ?_) fun b hb => ?_)
  · unfold lastCount
    rw [dif_pos hb, countStep_eq b hb, load_cell xs0 0 b _ (Shape.Idx.first (cell_pos 0 b _)), hT]
  · unfold lastLoss
    rw [dif_pos hb, lossStep_eq b hb, load_cell xs0 1 b _ (Shape.Idx.first (cell_pos 1 b _)), hT]

end Points

end Cert.KernelIdeal.Value
-- ==== Proof.Array.lean ====
/- The kernel's result: the mean over the bins, of the counts and the sums of losses of all the elements of the arrays. -/
module

public import proofs.«01_k».proof.Proof.Output

@[expose] public section

set_option maxRecDepth 16384

noncomputable section
namespace Cert.KernelIdeal.Value
open Cert.KernelIdeal Cert.KernelIdeal.Gen Idealize.ShloMosaic Idealize.ShloMosaic.TcCoe Idealize.SL.Sem
open Ghm

variable (m : (ℓ : Loc nD τ sig) → Buf (Elt Ideal) ℓ)

/-- What element `e` of the arrays adds to row `r`, bin `b`. -/
def element (l : S4x64x64x720.Idx → BitVec 32) (x w : S4x64x64x720.Idx → EReal) (r b : ℕ) (e : S4x64x64x720.Idx) : EReal :=
  if InBin b (l e) (x e) (w e) then mark r (l e) (x e) else 0

/-- What the element at a row and a lane of the reshaped arrays adds. -/
def elementAt (c : Dev nD) (r b : ℕ) (j : S11520x1024.Idx) : EReal :=
  element (m ((c : Thread nD τ).loc main_arg0)) (m ((c : Thread nD τ).loc main_arg1)) (m ((c : Thread nD τ).loc main_arg2)) r b
    (Shape.reshapeEquiv shapeCasts_S4x64x64x720_S11520x1024 j)

theorem window_index (t : Fin cfg0.N) : win0_0.index t 0 = t.val ∧ win0_0.index t 1 = 0 := by
  rcases fin_N0 t with rfl | rfl | rfl | rfl | rfl | rfl | rfl | rfl | rfl | rfl | rfl | rfl | rfl | rfl | rfl | rfl <;> decide

/-- The row and lane of the reshaped arrays that row `p`, lane `q` of the block at point `t` is. -/
def place (t : Fin cfg0.N) (j : S720x1024.Idx) : S11520x1024.Idx := fun
  | ⟨0, _⟩ => ⟨t.val * 720 + (j 0).val, by
      have := lt_of_lt_of_eq t.isLt N_0; have h : (j 0).val < 720 := (j 0).isLt; show _ < 11520; omega⟩
  | ⟨1, _⟩ => ⟨(j 1).val, (j 1).isLt⟩

/-- An index whose coordinates are those that the window computes is the place. -/
theorem place_eq (t : Fin cfg0.N) (j : S720x1024.Idx) (i : S11520x1024.Idx)
    (h0 : (i 0).val = win0_0.index t 0 * 720 + 1 * (j 0).val) (h1 : (i 1).val = win0_0.index t 1 * 1024 + 1 * (j 1).val) :
    i = place t j := by
  funext a
  apply Fin.ext
  match a with
  | ⟨0, _⟩ => show (i 0).val = t.val * 720 + (j 0).val; rw [h0, (window_index t).1]; omega
  | ⟨1, _⟩ => show (i 1).val = (j 1).val; rw [h1, (window_index t).2]; omega

theorem read0 (c : Dev nD) (t : Fin cfg0.N) (j : S720x1024.Idx) :
    iblk m c 0 t j = m ((c : Thread nD τ).loc main_arg0) (Shape.reshapeEquiv shapeCasts_S4x64x64x720_S11520x1024 (place t j)) :=
  congrArg (fun i => m ((c : Thread nD τ).loc main_arg0) (Shape.reshapeEquiv shapeCasts_S4x64x64x720_S11520x1024 i))
    (place_eq t j _ rfl rfl)

theorem read1 (c : Dev nD) (t : Fin cfg0.N) (j : S720x1024.Idx) :
    iblk m c 1 t j = m ((c : Thread nD τ).loc main_arg1) (Shape.reshapeEquiv shapeCasts_S4x64x64x720_S11520x1024 (place t j)) :=
  congrArg (fun i => m ((c : Thread nD τ).loc main_arg1) (Shape.reshapeEquiv shapeCasts_S4x64x64x720_S11520x1024 i))
    (place_eq t j _ rfl rfl)

theorem read2 (c : Dev nD) (t : Fin cfg0.N) (j : S720x1024.Idx) :
    iblk m c 2 t j = m ((c : Thread nD τ).loc main_arg2) (Shape.reshapeEquiv shapeCasts_S4x64x64x720_S11520x1024 (place t j)) :=
  congrArg (fun i => m ((c : Thread nD τ).loc main_arg2) (Shape.reshapeEquiv shapeCasts_S4x64x64x720_S11520x1024 i))
    (place_eq t j _ rfl rfl)

/-- What the block at point `t` adds to row `r`, bin `b`; nothing from the sixteenth on. -/
def pointTerm (c : Dev nD) (r b n : ℕ) : EReal :=
  if h : n < cfg0.N then ∑ j, elementAt m c r b (place ⟨n, h⟩ j) else 0

theorem blockTerm_eq (c : Dev nD) (t : Fin cfg0.N) (r b : ℕ) :
    blockTerm (iblk m c 0 t) (iblk m c 1 t) (iblk m c 2 t) r b = pointTerm m c r b t.val := by
  unfold pointTerm
  rw [dif_pos t.isLt]
  refine Finset.sum_congr rfl fun j _ => ?_
  rw [read0, read1, read2]
  rfl

/-- The scratch after point `n`: the sums over the blocks up to it. -/
theorem scratch_eq (c : Dev nD) : ∀ (n : ℕ) (hn : n < cfg0.N) (y : S2x10.Idx),
    ((outsAt0 m c n hn).2 y : EReal) = ∑ k ∈ Finset.range (n + 1), pointTerm m c (y 0).val (y 1).val k
  | 0, hn, y => by
    have hA : ((outsAt0 m c 0 hn).2 y : EReal)
        = scratchStep (fun _ => 0) (iblk m c 0 ⟨0, hn⟩) (iblk m c 1 ⟨0, hn⟩) (iblk m c 2 ⟨0, hn⟩) y := by
      rw [outsAt0_A m c ⟨0, hn⟩ rfl (by show ¬0 % 16 = 15; decide)]
      dsimp only
      rw [scratch_A]
    rw [hA]
    unfold scratchStep
    rw [blockTerm_eq m c ⟨0, hn⟩, Finset.sum_range_one, zero_add]
  | n + 1, hn, y => by
    have hN : cfg0.N = 16 := N_0
    have h0 : ¬(⟨n + 1, hn⟩ : Fin cfg0.N).val % 16 = 0 := by dsimp only; omega
    have ih := scratch_eq c n (Nat.lt_of_succ_lt hn) y
    rw [Finset.sum_range_succ, ← ih, ← blockTerm_eq m c ⟨n + 1, hn⟩]
    by_cases h1 : (⟨n + 1, hn⟩ : Fin cfg0.N).val % 16 = 15
    · rw [outsAt0_C m c ⟨n + 1, hn⟩ h0 h1]
      dsimp only
      rw [scratch_C]
      rfl
    · rw [outsAt0_B m c ⟨n + 1, hn⟩ h0 h1]
      dsimp only
      rw [scratch_B]
      rfl

/-- The blocks of the sixteen points are the rows of the reshaped arrays, and these are the arrays' elements. -/
theorem sum_points (c : Dev nD) (r b : ℕ) : ∑ k ∈ Finset.range 16, pointTerm m c r b k
    = ∑ e, element (m ((c : Thread nD τ).loc main_arg0)) (m ((c : Thread nD τ).loc main_arg1)) (m ((c : Thread nD τ).loc main_arg2)) r b e := by
  have hN : cfg0.N = 16 := N_0
  rw [← Equiv.sum_comp (Shape.reshapeEquiv shapeCasts_S4x64x64x720_S11520x1024)]
  show _ = ∑ j, elementAt m c r b j
  rw [sum_idx2, Fin.sum_univ_tiles 16 720 rfl, Finset.sum_range]
  refine Finset.sum_congr rfl fun t _ => ?_
  unfold pointTerm
  rw [dif_pos (lt_of_lt_of_eq t.isLt hN.symm), sum_idx2]
  refine Finset.sum_congr rfl fun p _ => Finset.sum_congr rfl fun q _ => congrArg _ ?_
  funext a
  match a with
  | ⟨0, _⟩ => rfl
  | ⟨1, _⟩ => rfl

/-- The number that the kernel returns, from the arrays. -/
def result (l : S4x64x64x720.Idx → BitVec 32) (x w : S4x64x64x720.Idx → EReal) : EReal :=
  meanOf (fun b => ∑ e, element l x w 0 b e) (fun b => ∑ e, element l x w 1 b e) 10

/-- The kernel's result array. -/
theorem final_o (c : Dev nD) : ((dats m 0 c).arrAt 3 cfg0.N : S1x1.Idx → EReal) = fun _ => result
    (m ((c : Thread nD τ).loc main_arg0)) (m ((c : Thread nD τ).loc main_arg1)) (m ((c : Thread nD τ).loc main_arg2)) := by
  refine (dats m 0 c).arrAt_eq_of_after_last 3 t0_15 (by decide +kernel) _ fun j => ?_
  blk_simp
  have hT : ∀ r b inb z, ((outsAt0 m c (t0_15.val - 1) (Nat.lt_of_le_of_lt (Nat.sub_le _ _) t0_15.isLt)).2 ((cellRect r b inb).emb z) : EReal)
      = ∑ k ∈ Finset.range 15, pointTerm m c r b k := fun r b inb z => by
    rw [scratch_eq, cell_row, cell_bin]
    rfl
  have hC : ((outsAt0 m c t0_15.val t0_15.isLt).1 j : EReal) = meanOf
      (fun b => (∑ k ∈ Finset.range 15, pointTerm m c 0 b k) + blockTerm (iblk m c 0 t0_15) (iblk m c 1 t0_15) (iblk m c 2 t0_15) 0 b)
      (fun b => (∑ k ∈ Finset.range 15, pointTerm m c 1 b k) + blockTerm (iblk m c 0 t0_15) (iblk m c 1 t0_15) (iblk m c 2 t0_15) 1 b)
      10 := by
    rw [outsAt0_C m c t0_15 (by decide) (by decide)]
    dsimp only
    rw [output_C (T := fun r b => ∑ k ∈ Finset.range 15, pointTerm m c r b k) (hT := hT)]
  rw [after0_3]
  refine hC.trans ?_
  unfold result
  refine meanOf_congr (fun b _ => ?_) fun b _ => ?_
  · rw [blockTerm_eq m c t0_15, ← sum_points]
    exact (Finset.sum_range_succ _ 15).symm
  · rw [blockTerm_eq m c t0_15, ← sum_points]
    exact (Finset.sum_range_succ _ 15).symm

end Cert.KernelIdeal.Value
-- ==== Proof.RefValue.lean ====
/- What the reference computes: the mean of the losses weighted by bin.

   The reference compares every gap with the eleven edges it makes, counts each bin, gives an element of a bin that holds
   something the total weight over the bin's count, divides by the number of such bins, and divides the weighted sum of
   the entropies by the total weight. One lemma reads a bin (`isBin`), one puts a bin into the weights (`weight_step`) and
   one into the number of bins (`filled_step`); the ten bins are instances. -/
module

public import proofs.«01_k».proof.Proof.Gen.ReferenceIdeal.Run
public import proofs.«01_k».proof.Proof.Spec
public import proofs.«01_k».proof.Proof.Algebra
public import Idealize.ShloMosaic.Lib.Routing.OpsOne
public import Idealize.ShloMosaic.Lib.Routing.OpsPair

@[expose] public section

set_option maxRecDepth 16384

noncomputable section

namespace Cert.ReferenceIdeal.Value

open Cert.ReferenceIdeal Cert.ReferenceIdeal.Gen Idealize.ShloMosaic Idealize.ShloMosaic.TcCoe Idealize.SL.Sem
open Idealize.ShloMosaic.ValueIdx Idealize.ShloMosaic.Routing Ghm

variable (V0 : Valuation τ sig (Elt Ideal))

/-- The labels. -/
abbrev lab : S4x64x64x720.Idx → BitVec 32 := V0 (Proc.devRef .tc main_arg0)
/-- The logits. -/
abbrev lgt : S4x64x64x720.Idx → EReal := V0 (Proc.devRef .tc main_arg1)
/-- The weights. -/
abbrev wgt : S4x64x64x720.Idx → EReal := V0 (Proc.devRef .tc main_arg2)

/-- Element `e` of the arrays lies in bin `b`. -/
abbrev Bin (b : ℕ) (e : S4x64x64x720.Idx) : Prop := InBin b (lab V0 e) (lgt V0 e) (wgt V0 e)

/-! ## The edges -/

theorem ten_f32 : Ideal.ofBits .f32 0x41200000#32 = ((10 : ℝ) : EReal) := by
  simp [Ideal.ofBits, Ideal.ieee, -EReal.coe_mul]; norm_num

theorem bump_pos : (0 : EReal) < Ideal.ofBits .f32 0x358637BD#32 := by
  simp [Ideal.ofBits, Ideal.ieee, -EReal.coe_mul]

/-- The tenths, before the last one is raised. -/
def tenths : S11.Idx → EReal :=
  Host.divf (F := Ideal) (sitofp .f32 (iotaInDim S11 32 0)) (broadcastInDim S11 ![] bcast_S_S11 (constant S_ .f32 0x41200000#32))

theorem tenths_read (i : Fin 11) : tenths (ValueIdx.ix1 i) = (((i.val : ℝ) / 10 : ℝ) : EReal) := by
  show Ideal.div (((BitVec.ofNat 32 i.val).toInt : ℝ) : EReal) (Ideal.ofBits .f32 0x41200000#32) = _
  rw [ten_f32, StableHlo.Predicate.toInt_ofNat_small _ (by omega), Ideal.div, if_neg (by exact_mod_cast (by norm_num : (10 : ℝ) ≠ 0)),
    ← EReal.coe_inv, ← EReal.coe_mul, div_eq_mul_inv]
  norm_num

/-- The edges the reference makes: the tenths, the last one raised. -/
theorem edges_read (i : Fin 11) : (res_main_v4 V0 : S11.Idx → EReal) (ValueIdx.ix1 i)
    = if i = 10 then tenths (ValueIdx.ix1 i) + Ideal.ofBits .f32 0x358637BD#32 else tenths (ValueIdx.ix1 i) := by
  have hL : List.finRange S_.numel = [⟨0, by decide⟩] := by decide
  unfold res_main_v4
  refine (scatter_at _ _ _ _ _ _).trans ?_
  rw [hL, List.foldl_cons, List.foldl_nil, eq_ix0 (S_.rowMajor.symm _)]
  have h := lands_one scatter_S11_S1_S__n_0_0_0 rfl rfl (broadcastInDim S1 ![] bcast_S_S1 (constantI S_ 32 10#32)) (10 : Fin 11) (by decide) i
  simp only [h]
  rfl

/-- Below ten, edge `i` is the lower edge of bin `i`. -/
theorem edge_low (i : Fin 11) (hi : i.val < 10) : (res_main_v4 V0 : S11.Idx → EReal) (ValueIdx.ix1 i) = edge i.val := by
  rw [edges_read, if_neg (by rintro h; rw [h] at hi; exact absurd hi (by decide)), tenths_read]
  unfold edge edgeR
  rw [if_pos hi]

/-- Every edge bounds the gaps as that of its bin does. -/
theorem edge_bound (i : Fin 11) (l : BitVec 32) (x : EReal) :
    gap l x < (res_main_v4 V0 : S11.Idx → EReal) (ValueIdx.ix1 i) ↔ gap l x < edge i.val := by
  rcases lt_or_ge i.val 10 with hi | hi
  · rw [edge_low V0 i hi]
  · have : i = 10 := Fin.ext (by have := i.isLt; show i.val = 10; omega)
    subst this
    refine lt_edge_last ?_ l x
    rw [edges_read, if_pos rfl, tenths_read]
    have h1 : ((((10 : Fin 11).val : ℝ) / 10 : ℝ) : EReal) = 1 := by norm_num
    rw [h1]
    exact (EReal.add_lt_add_left_coe bump_pos 1).trans_eq' (by simp)

/-! ## The gaps -/

theorem one_f32 : Ideal.ofBits .f32 0x3F800000#32 = 1 := Ideal.ofBits_one_f32

theorem gaps_read (e : S4x64x64x720.Idx) : (res_main_v15 V0 : S4x64x64x720.Idx → EReal) e = gap (lab V0 e) (lgt V0 e) := by
  have hp : (res_main_v10 V0 : S4x64x64x720.Idx → EReal) e = Ideal.logistic (lgt V0 e) := by
    show Ideal.div (Ideal.ofBits .f32 0x3F800000#32) (Ideal.ofBits .f32 0x3F800000#32 + Ideal.exp (-(lgt V0 e))) = _
    rw [one_f32]; rfl
  show Scalar.select (IntOp.cmpi .eq (lab V0 e) 1#32)
    (Ideal.ofBits .f32 0x3F800000#32 - (res_main_v10 V0 : S4x64x64x720.Idx → EReal) e) ((res_main_v10 V0 : S4x64x64x720.Idx → EReal) e) = _
  rw [select_eq, hp, one_f32]
  rfl

/-! ## A bin -/

/-- One edge, cut out of the eleven. -/
theorem cut_read (v : S11.Idx → EReal) (b : ℕ) (hb : b < 11) (h : S11.Slices ![b] S1) (h' : S1.ShapeCasts S_) (j : S_.Idx) :
    shapeCast S_ (extractStridedSlice S1 ![b] v h) h' j = v (ValueIdx.ix1 ⟨b, hb⟩) := by
  refine congrArg v (funext fun a => Fin.ext ?_)
  obtain rfl : a = 0 := Subsingleton.elim (α := Fin 1) _ _
  have h0 : (Shape.reshapeEquiv h' j 0).val < 1 := (Shape.reshapeEquiv h' j 0).isLt
  show b + (Shape.reshapeEquiv h' j 0).val = b
  omega

/-- The mask the reference makes of bin `b`. -/
def ids (b : ℕ) (h : S11.Slices ![b] S1) (h' : S11.Slices ![b + 1] S1) : Vec Ideal S4x64x64x720 .i1 :=
  andi (andi
      (cmpf .oge (res_main_v15 V0) (broadcastInDim S4x64x64x720 ![] bcast_S_S4x64x64x720
        (shapeCast S_ (extractStridedSlice S1 ![b] (res_main_v4 V0) h) shapeCasts_S1_S_)))
      (cmpf .olt (res_main_v15 V0) (broadcastInDim S4x64x64x720 ![] bcast_S_S4x64x64x720
        (shapeCast S_ (extractStridedSlice S1 ![b + 1] (res_main_v4 V0) h') shapeCasts_S1_S_))))
    (res_main_v19 V0)

theorem ids_read (b : ℕ) (hb : b < 10) (h : S11.Slices ![b] S1) (h' : S11.Slices ![b + 1] S1) (e : S4x64x64x720.Idx) :
    ids V0 b h h' e = BitVec.ofBool (decide (Bin V0 b e)) := by
  have key := inBin_mask b (lab V0 e) (lgt V0 e) (wgt V0 e) _ _ (edge_low V0 ⟨b, by omega⟩ hb)
    (edge_bound V0 ⟨b + 1, by omega⟩ (lab V0 e) (lgt V0 e))
  rw [← key, ← gaps_read V0 e, ← cut_read (res_main_v4 V0) b (by omega) h shapeCasts_S1_S_ ValueIdx.ix0,
    ← cut_read (res_main_v4 V0) (b + 1) (by omega) h' shapeCasts_S1_S_ ValueIdx.ix0,
    ← show Ideal.ofBits .f32 0x00000000#32 = 0 from Ideal.ofBits_zero_f32]
  unfold ids
  rfl

/-- `M`, `C` and `N` are the mask of bin `b`, its count, and whether it holds something. -/
structure IsBin (b : ℕ) (M : Vec Ideal S4x64x64x720 .i1) (C : Vec Ideal S_ .f32) (N : Vec Ideal S_ .i1) : Prop where
  mask : ∀ e, M e = BitVec.ofBool (decide (Bin V0 b e))
  size : ∀ j, (C j : EReal) = count (Bin V0) b
  holds : ∀ j, N j = BitVec.ofBool (decide (0 < count (Bin V0) b))

/-- The sum of an array over all of its elements. -/
theorem total_read (x : S4x64x64x720.Idx → EReal) (j : S_.Idx) :
    (Host.reduceAdd (F := Ideal) (φ := .f32) x (constant S_ .f32 0x00000000#32) reducesTo_S4x64x64x720_S_d0_1_2_3 h_S_ j : EReal) = ∑ e, x e := by
  rw [ValueIdx.hostReduceAdd_apply, Ideal.hostReduceAdd_total _ (fun b => b.elim0)]
  exact (congrArg (· + _) Ideal.ofBits_zero_f32).trans (zero_add _)

/-- The sum of a mask's bits is the count of its elements. -/
theorem count_read {b : ℕ} {M : Vec Ideal S4x64x64x720 .i1} (hM : ∀ e, M e = BitVec.ofBool (decide (Bin V0 b e))) (j : S_.Idx) :
    (Host.reduceAdd (F := Ideal) (φ := .f32) (uitofp .f32 M) (constant S_ .f32 0x00000000#32)
      reducesTo_S4x64x64x720_S_d0_1_2_3 h_S_ j : EReal) = count (Bin V0) b := by
  refine (total_read _ j).trans (Finset.sum_congr rfl fun e _ => ?_)
  exact (congrArg (fun v : BitVec 1 => (((v.toNat : ℝ)) : EReal)) (hM e)).trans (bit_value _)

/-- The test that a count is positive. -/
theorem holds_read {c : EReal} {C : Vec Ideal S_ .f32} (hC : ∀ j, (C j : EReal) = c) (j : S_.Idx) :
    cmpf (F := Ideal) .ogt C (constant S_ .f32 0x00000000#32) j = BitVec.ofBool (decide (0 < c)) := by
  show BitVec.ofBool (decide (Ideal.ofBits .f32 0x00000000#32 < (C j : EReal))) = _
  rw [show Ideal.ofBits .f32 0x00000000#32 = 0 from Ideal.ofBits_zero_f32, hC]

/-- What the reference makes of bin `b` is the bin. -/
theorem isBin (b : ℕ) (hb : b < 10) (h : S11.Slices ![b] S1) (h' : S11.Slices ![b + 1] S1)
    {M : Vec Ideal S4x64x64x720 .i1} {C : Vec Ideal S_ .f32} {N : Vec Ideal S_ .i1} (hM : M = ids V0 b h h')
    (hC : C = Host.reduceAdd (F := Ideal) (uitofp .f32 M) (constant S_ .f32 0x00000000#32) reducesTo_S4x64x64x720_S_d0_1_2_3 h_S_)
    (hN : N = cmpf (F := Ideal) .ogt C (constant S_ .f32 0x00000000#32)) : IsBin V0 b M C N := by
  have h1 : ∀ e, M e = BitVec.ofBool (decide (Bin V0 b e)) := fun e => by rw [hM]; exact ids_read V0 b hb h h' e
  have h2 : ∀ j, (C j : EReal) = count (Bin V0) b := fun j => by rw [hC]; exact count_read V0 h1 j
  exact ⟨h1, h2, fun j => by rw [hN]; exact holds_read h2 j⟩

/-- The total weight that the reference divides by. -/
def total : EReal := max (∑ e, wgt V0 e) 1

theorem total_eq (j : S_.Idx) : (res_main_v17 V0 : S_.Idx → EReal) j = total V0 := by
  unfold total
  rw [← total_read (wgt V0) j, ← one_f32]
  rfl

/-- Putting bin `b` into the weights. -/
theorem weight_step {b : ℕ} {M : Vec Ideal S4x64x64x720 .i1} {C : Vec Ideal S_ .f32} {N : Vec Ideal S_ .i1}
    {W : Vec Ideal S4x64x64x720 .f32} (h : IsBin V0 b M C N) (hW : ∀ e, (W e : EReal) = weight (Bin V0) (total V0) b e)
    (e : S4x64x64x720.Idx) :
    (select (andi M (broadcastInDim S4x64x64x720 ![] bcast_S_S4x64x64x720 N))
      (broadcastInDim S4x64x64x720 ![] bcast_S_S4x64x64x720
        (Host.divf (res_main_v17 V0) (maximumf C (constant S_ .f32 0x3F800000#32)))) W e : EReal)
      = weight (Bin V0) (total V0) (b + 1) e := by
  show Scalar.select (IntOp.andi (M e) (broadcastInDim S4x64x64x720 ![] bcast_S_S4x64x64x720 N e))
    (broadcastInDim S4x64x64x720 ![] bcast_S_S4x64x64x720
        (Host.divf (res_main_v17 V0) (maximumf C (constant S_ .f32 0x3F800000#32))) e) (W e) = _
  rw [ValueIdx.broadcastInDim_scalar_apply, ValueIdx.broadcastInDim_scalar_apply, h.mask, h.holds, andi_ofBool, select_ofBool, hW,
    ValueIdx.hostDivf_apply, total_eq]
  show (if _ then Ideal.div _ (max (C ValueIdx.ix0 : EReal) (Ideal.ofBits .f32 0x3F800000#32)) else _) = _
  rw [h.size, one_f32]
  rfl

/-- Putting bin `b` into the number of bins that hold something. -/
theorem filled_step {b : ℕ} {M : Vec Ideal S4x64x64x720 .i1} {C : Vec Ideal S_ .f32} {N : Vec Ideal S_ .i1}
    {n : Vec Ideal S_ .f32} (h : IsBin V0 b M C N) (hn : ∀ j, (n j : EReal) = filled (Bin V0) b) (j : S_.Idx) :
    (addf (F := Ideal) n (uitofp .f32 N) j : EReal) = filled (Bin V0) (b + 1) := by
  show (n j : EReal) + (((N j).toNat : ℝ) : EReal) = _
  rw [hn, h.holds, bit_value]
  exact (Finset.sum_range_succ _ _).symm

/-! ## The ten bins -/

theorem isBin0 : IsBin V0 0 (res_main_v30 V0) (res_main_v32 V0) (res_main_v33 V0) := isBin V0 0 (by decide) _ _ rfl rfl rfl
theorem isBin1 : IsBin V0 1 (res_main_v50 V0) (res_main_v52 V0) (res_main_v53 V0) := isBin V0 1 (by decide) _ _ rfl rfl rfl
theorem isBin2 : IsBin V0 2 (res_main_v70 V0) (res_main_v72 V0) (res_main_v73 V0) := isBin V0 2 (by decide) _ _ rfl rfl rfl
theorem isBin3 : IsBin V0 3 (res_main_v90 V0) (res_main_v92 V0) (res_main_v93 V0) := isBin V0 3 (by decide) _ _ rfl rfl rfl
theorem isBin4 : IsBin V0 4 (res_main_v110 V0) (res_main_v112 V0) (res_main_v113 V0) := isBin V0 4 (by decide) _ _ rfl rfl rfl
theorem isBin5 : IsBin V0 5 (res_main_v130 V0) (res_main_v132 V0) (res_main_v133 V0) := isBin V0 5 (by decide) _ _ rfl rfl rfl
theorem isBin6 : IsBin V0 6 (res_main_v150 V0) (res_main_v152 V0) (res_main_v153 V0) := isBin V0 6 (by decide) _ _ rfl rfl rfl
theorem isBin7 : IsBin V0 7 (res_main_v170 V0) (res_main_v172 V0) (res_main_v173 V0) := isBin V0 7 (by decide) _ _ rfl rfl rfl
theorem isBin8 : IsBin V0 8 (res_main_v190 V0) (res_main_v192 V0) (res_main_v193 V0) := isBin V0 8 (by decide) _ _ rfl rfl rfl
theorem isBin9 : IsBin V0 9 (res_main_v210 V0) (res_main_v212 V0) (res_main_v213 V0) := isBin V0 9 (by decide) _ _ rfl rfl rfl

/-- The weights after the ten bins. -/
theorem weights_eq (e : S4x64x64x720.Idx) : (res_main_v218 V0 : S4x64x64x720.Idx → EReal) e = weight (Bin V0) (total V0) 10 e := by
  unfold res_main_v218
  exact weight_step V0 (isBin9 V0) (weight_step V0 (isBin8 V0) (weight_step V0 (isBin7 V0) (weight_step V0 (isBin6 V0)
    (weight_step V0 (isBin5 V0) (weight_step V0 (isBin4 V0) (weight_step V0 (isBin3 V0) (weight_step V0 (isBin2 V0)
    (weight_step V0 (isBin1 V0) (weight_step V0 (isBin0 V0) fun _ => Ideal.ofBits_zero_f32))))))))) e

/-- The number of bins that hold something. -/
theorem filled_eq_sum (j : S_.Idx) : (res_main_v220 V0 : S_.Idx → EReal) j = filled (Bin V0) 10 := by
  unfold res_main_v220
  exact filled_step V0 (isBin9 V0) (filled_step V0 (isBin8 V0) (filled_step V0 (isBin7 V0) (filled_step V0 (isBin6 V0)
    (filled_step V0 (isBin5 V0) (filled_step V0 (isBin4 V0) (filled_step V0 (isBin3 V0) (filled_step V0 (isBin2 V0)
    (filled_step V0 (isBin1 V0) (filled_step V0 (isBin0 V0) fun _ => Ideal.ofBits_zero_f32))))))))) j

/-! ## The result -/

/-- The entropies, as the reference computes them. -/
def entropies : Vec Ideal S4x64x64x720 .f32 :=
  addf (F := Ideal) (φ := .f32)
    (subf (F := Ideal) (φ := .f32)
      (maximumf (F := Ideal) (φ := .f32) (lgt V0) (broadcastInDim S4x64x64x720 ![] bcast_S_S4x64x64x720 (constant S_ .f32 0x00000000#32)))
      (mulf (F := Ideal) (φ := .f32) (lgt V0) (sitofp .f32 (lab V0))))
    (Host.log1p (F := Ideal) (φ := .f32) (Host.exp (F := Ideal) (φ := .f32) (Host.negf (F := Ideal) (φ := .f32)
      (Host.absf (F := Ideal) (φ := .f32) (lgt V0)))))

theorem entropies_read (e : S4x64x64x720.Idx) : (entropies V0 e : EReal) = entropy (lab V0 e) (lgt V0 e) := by
  show max (lgt V0 e) (Ideal.ofBits .f32 0x00000000#32) - lgt V0 e * (((lab V0 e).toInt : ℝ) : EReal)
    + Ideal.log1p (Ideal.exp (-max (lgt V0 e) (-(lgt V0 e)))) = _
  rw [show Ideal.ofBits .f32 0x00000000#32 = 0 from Ideal.ofBits_zero_f32]
  rfl

/-- From losses `f`, weights `W` and a number `n` of bins that hold something, the reference's result. -/
theorem mean_read {f W : Vec Ideal S4x64x64x720 .f32} {n : Vec Ideal S_ .f32}
    (hW : ∀ e, (W e : EReal) = weight (Bin V0) (total V0) 10 e) (hn : ∀ j, (n j : EReal) = filled (Bin V0) 10) (j : S_.Idx) :
    (Host.divf (F := Ideal) (φ := .f32) (Host.reduceAdd (F := Ideal) (φ := .f32)
      (mulf (F := Ideal) (φ := .f32) f (select
        (broadcastInDim S4x64x64x720 ![] bcast_S_S4x64x64x720 (cmpf (F := Ideal) (φ := .f32) .ogt n (constant S_ .f32 0x00000000#32)))
        (Host.divf (F := Ideal) (φ := .f32) W (broadcastInDim S4x64x64x720 ![] bcast_S_S4x64x64x720
          (maximumf (F := Ideal) (φ := .f32) n (constant S_ .f32 0x3F800000#32)))) W))
      (constant S_ .f32 0x00000000#32) reducesTo_S4x64x64x720_S_d0_1_2_3 h_S_) (res_main_v17 V0) j : EReal)
      = weightedMean (Bin V0) (fun e => (f e : EReal)) (total V0) 10 := by
  rw [ValueIdx.hostDivf_apply, total_eq]
  unfold weightedMean
  refine congrArg (Ideal.div · _) ((total_read _ j).trans (Finset.sum_congr rfl fun e _ => ?_))
  show (f e : EReal) * Scalar.select (broadcastInDim S4x64x64x720 ![] bcast_S_S4x64x64x720 (cmpf (F := Ideal) (φ := .f32) .ogt n (constant S_ .f32 0x00000000#32)) e)
    (Host.divf (F := Ideal) (φ := .f32) W (broadcastInDim S4x64x64x720 ![] bcast_S_S4x64x64x720
          (maximumf (F := Ideal) (φ := .f32) n (constant S_ .f32 0x3F800000#32))) e) (W e) = _
  rw [ValueIdx.broadcastInDim_scalar_apply, holds_read hn, select_ofBool, ValueIdx.hostDivf_apply,
    ValueIdx.broadcastInDim_scalar_apply, hW]
  show _ * (if _ then Ideal.div _ (max (n ValueIdx.ix0 : EReal) (Ideal.ofBits .f32 0x3F800000#32)) else _) = _
  rw [hn, one_f32]

/-- The reference's result array, as its run leaves it. -/
theorem run_weightedMean (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      (r.2.mem ((c.tc : Thread nD τ).loc main_v239) : S1x1.Idx → EReal)
        = (fun _ => weightedMean (Bin (StableHlo.launchContents m c))
            (fun e => entropy (lab (StableHlo.launchContents m c) e) (lgt (StableHlo.launchContents m c) e))
            (total (StableHlo.launchContents m c)) 10)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) := by
  refine (θ_run defs _ _).mono (fun _ h c => ⟨(h c).1.trans ?_, (h c).2⟩) (run (F := Ideal) m ρ)
  funext j
  refine (mean_read (StableHlo.launchContents m c) (f := entropies (StableHlo.launchContents m c))
    (weights_eq _) (filled_eq_sum _) (Shape.reshapeEquiv shapeCasts_S_S1x1 j)).trans ?_
  exact congrArg (fun f => weightedMean (Bin (StableHlo.launchContents m c)) f (total (StableHlo.launchContents m c)) 10)
    (funext (entropies_read _))

end Cert.ReferenceIdeal.Value

end
-- ==== Proof.Equation.lean ====
/- The equation: the number that the kernel returns is the weighted mean that the reference returns.

   The kernel averages the mean loss of each bin; the reference weights every loss by the total weight over its bin's
   count and divides by the total weight at the end. No element lies in two bins, so the two agree (`weightedMean`,
   Proof/Algebra.lean) whenever the total weight is below the infinity, which it is when every weight is. -/
module

public import proofs.«01_k».proof.Proof.Array
public import proofs.«01_k».proof.Proof.RefValue
public import proofs.«01_k».proof.Defs

@[expose] public section

set_option maxRecDepth 16384

noncomputable section

namespace Ghm

open Idealize.ShloMosaic Cert.KernelIdeal.Value

/-- The shape of the three arrays. -/
abbrev Elts : Type := Cert.KernelIdeal.S4x64x64x720.Idx

/-- The kernel's number is the mean over the bins of the mean entropy. -/
theorem result_eq_binMean (l : Elts → BitVec 32) (x w : Elts → EReal) :
    result l x w = binMean (fun b e => InBin b (l e) (x e) (w e)) (fun e => entropy (l e) (x e)) 10 := by
  rw [binMean_eq_meanOf]
  exact meanOf_congr (fun b _ => Finset.sum_congr rfl fun e _ => by unfold element mark; rw [if_pos rfl])
    fun b _ => Finset.sum_congr rfl fun e _ => by unfold element mark; rw [if_neg one_ne_zero]

/-- The two means agree for any total weight that is a real or `-∞`. -/
theorem binMean_eq_of_ne_top {ι : Type} [Fintype ι] (B : ℕ → ι → Prop) [∀ i j, Decidable (B i j)] (f : ι → EReal)
    (hB : ∀ i i' j, B i j → B i' j → i = i') (w : ι → EReal) (hw : ∀ e, w e ≠ ⊤) (K : ℕ) :
    binMean B f K = weightedMean B f (max (∑ e, w e) 1) K := by
  obtain ⟨T, hT, h⟩ := exists_real_max_one (sum_ne_top Finset.univ w fun e _ => hw e)
  rw [h]
  exact binMean_eq_weightedMean B f hB T hT K

/-- The kernel's number is the reference's, if every weight is below the infinity. -/
theorem result_eq_weightedMean (l : Elts → BitVec 32) (x w : Elts → EReal) (hw : ∀ e, w e ≠ ⊤) :
    result l x w = weightedMean (fun b e => InBin b (l e) (x e) (w e)) (fun e => entropy (l e) (x e)) (max (∑ e, w e) 1) 10 := by
  rw [result_eq_binMean, binMean_eq_of_ne_top (fun b e => InBin b (l e) (x e) (w e)) (fun e => entropy (l e) (x e))
    (fun _ _ _ h h' => inBin_unique h h') w hw 10]

theorem inf_f32 : Ideal.ofBits .f32 0x7F800000#32 = ⊤ := by simp [Ideal.ofBits, Ideal.ieee]

/-- The precondition says that every weight is below the infinity. -/
theorem ne_top_of_pre [Cert.Pre_weights_below_inf.Facts] {l : Elts → BitVec 32} {x w : Elts → EReal}
    (h : Cert.Pre_weights_below_inf.fn (F := Ideal) l x w = fun _ => 1#1) (e : Elts) : w e ≠ ⊤ := by
  have he : BitVec.ofBool (decide (w e < Ideal.ofBits .f32 0x7F800000#32)) = 1#1 := congrFun h e
  intro ht
  rw [ht, inf_f32] at he
  simp at he

end Ghm

end
-- ==== Proof.Claims.lean ====
/- The claims, one by one, from the runs of the programs. -/
module

public import proofs.«01_k».proof.Proof.Equation
public import proofs.«01_k».proof.Proof.Gen.Kernel.Frame
public import proofs.«01_k».proof.Proof.Gen.KernelIdeal.Frame
public import Idealize.ShloMosaic.Adequacy
public import Idealize.ShloMosaic.Init

@[expose] public section

set_option maxRecDepth 16384

noncomputable section

namespace Cert.Proof.Loss

open Idealize.ShloMosaic Idealize.SL.Sem

/-- The side condition that the precondition's broadcast states. -/
theorem pre_facts : Cert.Pre_weights_below_inf.Facts := ⟨by decide⟩

attribute [local instance] pre_facts

theorem frame_p : Cert.quiescent_Kernel := fun m ρ _ => Cert.Kernel.Gen.frame m ρ

theorem frame_pi : Cert.quiescent_KernelIdeal := fun m ρ _ => Cert.KernelIdeal.Gen.frame m ρ

theorem frame_pi_pre : Cert.quiescent_KernelIdeal_pre_weights_below_inf := fun m ρ _ => Cert.KernelIdeal.Gen.frame m ρ

theorem frame_ri : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

theorem frame_ri_pre : Cert.quiescent_ReferenceIdeal_pre_weights_below_inf := fun m ρ _ => frame_ri m ρ trivial

/-- Each named edge denotes its tenth. -/
theorem preserves : Cert.preserves_Kernel_KernelIdeal :=
  ⟨IdealRules.named_const.statement _ _ _ _ _ rfl, IdealRules.named_const.statement _ _ _ _ _ rfl,
    IdealRules.named_const.statement _ _ _ _ _ rfl, IdealRules.named_const.statement _ _ _ _ _ rfl,
    IdealRules.named_const.statement _ _ _ _ _ rfl, IdealRules.named_const.statement _ _ _ _ _ rfl,
    IdealRules.named_const.statement _ _ _ _ _ rfl, IdealRules.named_const.statement _ _ _ _ _ rfl⟩

/-- The kernel's array and the reference's hold the same number. -/
theorem algebraic : Cert.algebraic_KernelIdeal_ReferenceIdeal_pre_weights_below_inf := by
  intro m ρ m' ρ' hpre hagree
  refine ⟨_, Cert.KernelIdeal.Value.run_blocks (F := Ideal) m ρ, ?_⟩
  refine (θ_run Cert.ReferenceIdeal.defs _ _).mono (fun _ h c => ⟨(h c).1.trans ?_, (h c).2⟩)
    (Cert.ReferenceIdeal.Value.run_weightedMean m' ρ')
  obtain ⟨h0, h1, h2⟩ := hagree c
  refine Eq.trans (funext fun _ => ?_) (Cert.KernelIdeal.Value.final_o m c).symm
  refine (Eq.trans (Ghm.result_eq_weightedMean _ _ _ (Ghm.ne_top_of_pre (hpre c))) ?_).symm
  rw [← h0, ← h1, ← h2]
  rfl

end Cert.Proof.Loss

end
-- ==== Proof.lean ====
module

public import proofs.«01_k».proof.Defs
public import proofs.«01_k».proof.Proof.Claims
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import Idealize.ShloMosaic.Adequacy
public import Idealize.ShloMosaic.Init

@[expose] public section

noncomputable section

namespace Cert.Proof

open Idealize.ShloMosaic Idealize.SL.Sem

theorem claim : Cert.Claim :=
  ⟨Cert.Kernel.Gen.facts, Cert.KernelIdeal.Gen.facts, Cert.ReferenceIdeal.Gen.facts, Loss.pre_facts,
    Loss.frame_p, Loss.frame_pi, Loss.frame_pi_pre, Loss.frame_ri, Loss.frame_ri_pre, Loss.preserves, Loss.algebraic⟩

end Cert.Proof

end
